-- ==== Defs.lean ====
def Pre_Kernel [hPre_pairs_of_the_map : Cert.Pre_pairs_of_the_map.Facts] (m : (ℓ : Loc Cert.Kernel.nD Cert.Kernel.τ Cert.Kernel.sig) → Buf (Elt Bits) ℓ) : Prop :=
  ∀ c : Dev Cert.Kernel.nD,
    (Cert.Pre_pairs_of_the_map.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_pairs_of_the_map : Cert.Pre_pairs_of_the_map.Facts] (m : (ℓ : Loc Cert.KernelIdeal.nD Cert.KernelIdeal.τ Cert.KernelIdeal.sig) → Buf (Elt Ideal) ℓ) : Prop :=
  ∀ c : Dev Cert.KernelIdeal.nD,
    (Cert.Pre_pairs_of_the_map.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_pairs_of_the_map : Cert.Pre_pairs_of_the_map.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pairs_of_the_map.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_pairs_of_the_map : Cert.Pre_pairs_of_the_map.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_pairs_of_the_map : Cert.Pre_pairs_of_the_map.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] [hPre_pairs_of_the_map : Cert.Pre_pairs_of_the_map.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_pairs_of_the_map : Cert.Pre_pairs_of_the_map.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_pairs_of_the_map : Cert.Pre_pairs_of_the_map.Facts),
    quiescent_Kernel (hKernel := hKernel) (hPre_pairs_of_the_map := hPre_pairs_of_the_map)
    ∧ quiescent_KernelIdeal (hKernelIdeal := hKernelIdeal) (hPre_pairs_of_the_map := hPre_pairs_of_the_map)
    ∧ quiescent_ReferenceIdeal (hReferenceIdeal := hReferenceIdeal) (hPre_pairs_of_the_map := hPre_pairs_of_the_map)
    ∧ preserves_Kernel_KernelIdeal
    ∧ algebraic_KernelIdeal_ReferenceIdeal (hKernelIdeal := hKernelIdeal) (hReferenceIdeal := hReferenceIdeal) (hPre_pairs_of_the_map := hPre_pairs_of_the_map)
-- ==== Pre_pairs_of_the_map.lean ====
abbrev S50000x128 : Shape := ⟨2, ![50000, 128]⟩
abbrev S27x128x128 : Shape := ⟨3, ![27, 128, 128]⟩
abbrev S128 : Shape := ⟨1, ![128]⟩
abbrev S27x50000 : Shape := ⟨2, ![27, 50000]⟩
abbrev S50000 : Shape := ⟨1, ![50000]⟩
abbrev S1x50000 : Shape := ⟨2, ![1, 50000]⟩
abbrev S_ : Shape := ⟨0, ![]⟩
abbrev S27x50001 : Shape := ⟨2, ![27, 50001]⟩
abbrev S27 : Shape := ⟨1, ![27]⟩
abbrev S27x1 : Shape := ⟨2, ![27, 1]⟩
abbrev S27x50000x1 : Shape := ⟨3, ![27, 50000, 1]⟩
abbrev S27x50000x2 : Shape := ⟨3, ![27, 50000, 2]⟩
abbrev S1 : Shape := ⟨1, ![1]⟩
abbrev S1x1x1 : Shape := ⟨3, ![1, 1, 1]⟩

class Facts : Prop where
  bcast_S50000_S1x50000_1 : S50000.BroadcastsInDim S1x50000 (![1] : Fin 1 → Fin S1x50000.rank)
  bcast_S_S27x50001 : S_.BroadcastsInDim S27x50001 (![] : Fin 0 → Fin S27x50001.rank)
  bcast_S27_S27x1_0 : S27.BroadcastsInDim S27x1 (![0] : Fin 1 → Fin S27x1.rank)
  bcast_S1x50000_S27x50000_0_1 : S1x50000.BroadcastsInDim S27x50000 (![0, 1] : Fin 2 → Fin S27x50000.rank)
  bcast_S_S27x1 : S_.BroadcastsInDim S27x1 (![] : Fin 0 → Fin S27x1.rank)
  bcast_S_S27x50000 : S_.BroadcastsInDim S27x50000 (![] : Fin 0 → Fin S27x50000.rank)
  bcast_S27x1_S27x50000_0_1 : S27x1.BroadcastsInDim S27x50000 (![0, 1] : Fin 2 → Fin S27x50000.rank)
  bcast_S27x50000_S27x50000x1_0_1 : S27x50000.BroadcastsInDim S27x50000x1 (![0, 1] : Fin 2 → Fin S27x50000x1.rank)
  concatenates_S27x50000x1_S27x50000x1_S27x50000x2_d2 : Shape.Concatenates [S27x50000x1, S27x50000x1] S27x50000x2 2
  shapeCasts_S27x50000_S27x50000x1 : S27x50000.ShapeCasts S27x50000x1
  bcast_S_S27x50000x1 : S_.BroadcastsInDim S27x50000x1 (![] : Fin 0 → Fin S27x50000x1.rank)
  bcast_S1_S1x1x1_2 : S1.BroadcastsInDim S1x1x1 (![2] : Fin 1 → Fin S1x1x1.rank)
  bcast_S1x1x1_S27x50000x1_0_1_2 : S1x1x1.BroadcastsInDim S27x50000x1 (![0, 1, 2] : Fin 3 → Fin S27x50000x1.rank)
  reducesTo_S27x50000x1_S27x50000_d2 : S27x50000x1.ReducesTo [2] S27x50000
  h_S_ : 0 < S_.numel
  reducesTo_S27x50000_S_d0_1 : S27x50000.ReducesTo [0, 1] S_
  scatter_S27x50001_S27x50000x2_S27x50000_n_01_01_2_wf : ScatterDims.WF S27x50001 S27x50000x2 S27x50000 [] [0, 1] [0, 1] 2
  gather_S27x50001_S27x50000x1_S27x50000_n_1_0_0_1_2_11_wf : GatherDims.WF S27x50001 S27x50000x1 S27x50000 [] [1] [0] [1] [0] 2 ![1, 1]

variable [Facts]

def scatter_S27x50001_S27x50000x2_S27x50000_n_01_01_2 : ScatterDims S27x50001 S27x50000x2 S27x50000 where
  updateWindowDims := []
  insertedWindowDims := [0, 1]
  scatterDimsToOperandDims := [0, 1]
  indexVectorDim := 2
  wf := scatter_S27x50001_S27x50000x2_S27x50000_n_01_01_2_wf
def gather_S27x50001_S27x50000x1_S27x50000_n_1_0_0_1_2_11 : GatherDims S27x50001 S27x50000x1 S27x50000 where
  offsetDims := []
  collapsedSliceDims := [1]
  operandBatchingDims := [0]
  startIndicesBatchingDims := [0]
  startIndexMap := [1]
  indexVectorDim := 2
  sliceSizes := ![1, 1]
  wf := gather_S27x50001_S27x50000x1_S27x50000_n_1_0_0_1_2_11_wf
def fn_take_along_axis {F : FTy → Type} [FloatOps F] (arg0 : IVec S27x50001 32) (arg1 : IVec S27x50000 32) : IVec S27x50000 32 :=
  let c : IVec S_ 32 := constantI S_ 32 0#32
  let v0 : IVec S27x50000 32 := broadcastInDim S27x50000 ![] bcast_S_S27x50000 c
  let v1 : IVec S27x50000 1 := cmpi .slt arg1 v0
  let c_0 : IVec S_ 32 := constantI S_ 32 50001#32
  let v2 : IVec S27x50000 32 := broadcastInDim S27x50000 ![] bcast_S_S27x50000 c_0
  let v3 : IVec S27x50000 32 := addi arg1 v2
  let v4 : IVec S27x50000 32 := select v1 v3 arg1
  let v5 : IVec S27x50000x1 32 := shapeCast S27x50000x1 v4 shapeCasts_S27x50000_S27x50000x1
  let c_1 : IVec S1 32 := constantI S1 32 50000#32
  let c_2 : IVec S_ 32 := constantI S_ 32 0#32
  let v6 : IVec S27x50000x1 32 := broadcastInDim S27x50000x1 ![] bcast_S_S27x50000x1 c_2
  let v7 : IVec S27x50000x1 1 := cmpi .sge v5 v6
  let v8 : IVec S1x1x1 32 := broadcastInDim S1x1x1 ![2] bcast_S1_S1x1x1_2 c_1
  let v9 : IVec S27x50000x1 32 := broadcastInDim S27x50000x1 ![0, 1, 2] bcast_S1x1x1_S27x50000x1_0_1_2 v8
  let v10 : IVec S27x50000x1 1 := cmpi .sle v5 v9
  let v11 : IVec S27x50000x1 1 := andi v7 v10
  let c_3 : IVec S_ 1 := constantI S_ 1 1#1
  let v12 : IVec S27x50000 1 := (fun x v => Host.reduce IntOp.andi x v reducesTo_S27x50000x1_S27x50000_d2 h_S_) v11 c_3
  let v13 : IVec S27x50000 32 := (fun x i => Host.gather gather_S27x50001_S27x50000x1_S27x50000_n_1_0_0_1_2_11 x i) arg0 v5
  let c_4 : IVec S_ 32 := constantI S_ 32 2147483648#32
  let v14 : IVec S27x50000 32 := broadcastInDim S27x50000 ![] bcast_S_S27x50000 c_4
  let v15 : IVec S27x50000 32 := select v12 v13 v14
  v15

def fn_part2 {F : FTy → Type} [FloatOps F] (main_arg4 : IVec S27x50000 32) (main_v23 : IVec S27x50000 1) (main_v36 : IVec S_ 1) : IVec S_ 1 :=
  let main_c_10 : IVec S_ 32 := constantI S_ 32 50000#32
  let main_v37 : IVec S27x50000 32 := broadcastInDim S27x50000 ![] bcast_S_S27x50000 main_c_10
  let main_v38 : IVec S27x50000 1 := cmpi .eq main_arg4 main_v37
  let main_v39 : IVec S27x50000 1 := ori main_v23 main_v38
  let main_c_11 : IVec S_ 1 := constantI S_ 1 1#1
  let main_v40 : IVec S_ 1 := (fun x v => Host.reduce IntOp.andi x v reducesTo_S27x50000_S_d0_1 h_S_) main_v39 main_c_11
  let main_v41 : IVec S_ 1 := andi main_v36 main_v40
  main_v41

def fn_part1 {F : FTy → Type} [FloatOps F] (main_arg3 : IVec S27x50000 32) (main_arg4 : IVec S27x50000 32) (main_v1 : IVec S1x50000 32) (main_v2 : IVec S27x50001 32) (main_v5 : IVec S27x50000 32) (main_v17 : IVec S27x50000x1 32) (main_v18 : IVec S27x50000x1 32) : IVec S_ 1 :=
  let main_v19 : IVec S27x50000x2 32 := (fun a b => concatenate S27x50000x2 2 [⟨S27x50000x1, a⟩, ⟨S27x50000x1, b⟩] concatenates_S27x50000x1_S27x50000x1_S27x50000x2_d2) main_v17 main_v18
  let main_v20 : IVec S27x50001 32 := (fun x i u => Host.scatter scatter_S27x50001_S27x50000x2_S27x50000_n_01_01_2 (fun _ b => b) x i u) main_v2 main_v19 main_v5
  let main_v21 : IVec S27x50000 32 := fn_take_along_axis (F := F) main_v20 main_arg4
  let main_v22 : IVec S27x50000 32 := broadcastInDim S27x50000 ![0, 1] bcast_S1x50000_S27x50000_0_1 main_v1
  let main_v23 : IVec S27x50000 1 := cmpi .eq main_v21 main_v22
  let main_c_4 : IVec S_ 32 := constantI S_ 32 0#32
  let main_v24 : IVec S27x50000 32 := broadcastInDim S27x50000 ![] bcast_S_S27x50000 main_c_4
  let main_v25 : IVec S27x50000 1 := cmpi .sge main_arg3 main_v24
  let main_c_5 : IVec S_ 32 := constantI S_ 32 50000#32
  let main_v26 : IVec S27x50000 32 := broadcastInDim S27x50000 ![] bcast_S_S27x50000 main_c_5
  let main_v27 : IVec S27x50000 1 := cmpi .sle main_arg3 main_v26
  let main_v28 : IVec S27x50000 1 := andi main_v25 main_v27
  let main_c_6 : IVec S_ 1 := constantI S_ 1 1#1
  let main_v29 : IVec S_ 1 := (fun x v => Host.reduce IntOp.andi x v reducesTo_S27x50000_S_d0_1 h_S_) main_v28 main_c_6
  let main_c_7 : IVec S_ 32 := constantI S_ 32 0#32
  let main_v30 : IVec S27x50000 32 := broadcastInDim S27x50000 ![] bcast_S_S27x50000 main_c_7
  let main_v31 : IVec S27x50000 1 := cmpi .sge main_arg4 main_v30
  let main_c_8 : IVec S_ 32 := constantI S_ 32 50000#32
  let main_v32 : IVec S27x50000 32 := broadcastInDim S27x50000 ![] bcast_S_S27x50000 main_c_8
  let main_v33 : IVec S27x50000 1 := cmpi .sle main_arg4 main_v32
  let main_v34 : IVec S27x50000 1 := andi main_v31 main_v33
  let main_c_9 : IVec S_ 1 := constantI S_ 1 1#1
  let main_v35 : IVec S_ 1 := (fun x v => Host.reduce IntOp.andi x v reducesTo_S27x50000_S_d0_1 h_S_) main_v34 main_c_9
  let main_v36 : IVec S_ 1 := andi main_v29 main_v35
  fn_part2 (F := F) main_arg4 main_v23 main_v36

def fn {F : FTy → Type} [FloatOps F] (main_arg0 : FVec F S50000x128 .f32) (main_arg1 : FVec F S27x128x128 .f32) (main_arg2 : FVec F S128 .f32) (main_arg3 : IVec S27x50000 32) (main_arg4 : IVec S27x50000 32) : IVec S_ 1 :=
  let main_v0 : IVec S50000 32 := iotaInDim S50000 32 0
  let main_v1 : IVec S1x50000 32 := broadcastInDim S1x50000 ![1] bcast_S50000_S1x50000_1 main_v0
  let main_c : IVec S_ 32 := constantI S_ 32 0#32
  let main_v2 : IVec S27x50001 32 := broadcastInDim S27x50001 ![] bcast_S_S27x50001 main_c
  let main_v3 : IVec S27 32 := iotaInDim S27 32 0
  let main_v4 : IVec S27x1 32 := broadcastInDim S27x1 ![0] bcast_S27_S27x1_0 main_v3
  let main_v5 : IVec S27x50000 32 := broadcastInDim S27x50000 ![0, 1] bcast_S1x50000_S27x50000_0_1 main_v1
  let main_c_0 : IVec S_ 32 := constantI S_ 32 0#32
  let main_v6 : IVec S27x1 32 := broadcastInDim S27x1 ![] bcast_S_S27x1 main_c_0
  let main_v7 : IVec S27x1 1 := cmpi .slt main_v4 main_v6
  let main_c_1 : IVec S_ 32 := constantI S_ 32 27#32
  let main_v8 : IVec S27x1 32 := broadcastInDim S27x1 ![] bcast_S_S27x1 main_c_1
  let main_v9 : IVec S27x1 32 := addi main_v4 main_v8
  let main_v10 : IVec S27x1 32 := select main_v7 main_v9 main_v4
  let main_c_2 : IVec S_ 32 := constantI S_ 32 0#32
  let main_v11 : IVec S27x50000 32 := broadcastInDim S27x50000 ![] bcast_S_S27x50000 main_c_2
  let main_v12 : IVec S27x50000 1 := cmpi .slt main_arg4 main_v11
  let main_c_3 : IVec S_ 32 := constantI S_ 32 50001#32
  let main_v13 : IVec S27x50000 32 := broadcastInDim S27x50000 ![] bcast_S_S27x50000 main_c_3
  let main_v14 : IVec S27x50000 32 := addi main_arg4 main_v13
  let main_v15 : IVec S27x50000 32 := select main_v12 main_v14 main_arg4
  let main_v16 : IVec S27x50000 32 := broadcastInDim S27x50000 ![0, 1] bcast_S27x1_S27x50000_0_1 main_v10
  let main_v17 : IVec S27x50000x1 32 := broadcastInDim S27x50000x1 ![0, 1] bcast_S27x50000_S27x50000x1_0_1 main_v16
  let main_v18 : IVec S27x50000x1 32 := broadcastInDim S27x50000x1 ![0, 1] bcast_S27x50000_S27x50000x1_0_1 main_v15
  fn_part1 (F := F) main_arg3 main_arg4 main_v1 main_v2 main_v5 main_v17 main_v18
-- ==== Kernel.lean ====
abbrev S50000x128 : Shape := ⟨2, ![50000, 128]⟩
abbrev S27x128x128 : Shape := ⟨3, ![27, 128, 128]⟩
abbrev S128 : Shape := ⟨1, ![128]⟩
abbrev S27x50000 : Shape := ⟨2, ![27, 50000]⟩
abbrev S_ : Shape := ⟨0, ![]⟩
abbrev S27x50001 : Shape := ⟨2, ![27, 50001]⟩
abbrev S27 : Shape := ⟨1, ![27]⟩
abbrev S27x1 : Shape := ⟨2, ![27, 1]⟩
abbrev S27x50000x1 : Shape := ⟨3, ![27, 50000, 1]⟩
abbrev S27x50000x2 : Shape := ⟨3, ![27, 50000, 2]⟩
abbrev S50000x27 : Shape := ⟨2, ![50000, 27]⟩
abbrev S50176x27 : Shape := ⟨2, ![50176, 27]⟩
abbrev S1x1354752 : Shape := ⟨2, ![1, 1354752]⟩
abbrev S1x128 : Shape := ⟨2, ![1, 128]⟩
abbrev S50001x128 : Shape := ⟨2, ![50001, 128]⟩
abbrev S1354752x128 : Shape := ⟨2, ![1354752, 128]⟩
abbrev S2x1x128 : Shape := ⟨3, ![2, 1, 128]⟩
abbrev S2 : Shape := ⟨1, ![2]⟩
abbrev S2x128x128 : Shape := ⟨3, ![2, 128, 128]⟩
abbrev S1x1x128 : Shape := ⟨3, ![1, 1, 128]⟩
abbrev S1 : Shape := ⟨1, ![1]⟩
abbrev S1x128x128 : Shape := ⟨3, ![1, 128, 128]⟩
abbrev S128x128 : Shape := ⟨2, ![128, 128]⟩
abbrev S50176x3456 : Shape := ⟨2, ![50176, 3456]⟩
abbrev S3456x128 : Shape := ⟨2, ![3456, 128]⟩
abbrev S50176x128 : Shape := ⟨2, ![50176, 128]⟩
abbrev S448x3456 : Shape := ⟨2, ![448, 3456]⟩
abbrev S448x128 : Shape := ⟨2, ![448, 128]⟩

abbrev nBuf : Table → Nat
  | .hbm => 43
  | .local .tc .vmem => 6
  | .local .scVector .vmem => 2
  | _ => 0

abbrev bufTy : (tb : Table) → Fin (nBuf tb) → BufTy
  | .hbm, ⟨0, _⟩ => ⟨S50000x128, .f32⟩
  | .hbm, ⟨1, _⟩ => ⟨S27x128x128, .f32⟩
  | .hbm, ⟨2, _⟩ => ⟨S128, .f32⟩
  | .hbm, ⟨3, _⟩ => ⟨S27x50000, .i32⟩
  | .hbm, ⟨4, _⟩ => ⟨S27x50000, .i32⟩
  | .hbm, ⟨5, _⟩ => ⟨S_, .i32⟩
  | .hbm, ⟨6, _⟩ => ⟨S27x50001, .i32⟩
  | .hbm, ⟨7, _⟩ => ⟨S27, .i32⟩
  | .hbm, ⟨8, _⟩ => ⟨S27x1, .i32⟩
  | .hbm, ⟨9, _⟩ => ⟨S_, .i32⟩
  | .hbm, ⟨10, _⟩ => ⟨S27x1, .i32⟩
  | .hbm, ⟨11, _⟩ => ⟨S27x1, .i1⟩
  | .hbm, ⟨12, _⟩ => ⟨S_, .i32⟩
  | .hbm, ⟨13, _⟩ => ⟨S27x1, .i32⟩
  | .hbm, ⟨14, _⟩ => ⟨S27x1, .i32⟩
  | .hbm, ⟨15, _⟩ => ⟨S27x1, .i32⟩
  | .hbm, ⟨16, _⟩ => ⟨S_, .i32⟩
  | .hbm, ⟨17, _⟩ => ⟨S27x50000, .i32⟩
  | .hbm, ⟨18, _⟩ => ⟨S27x50000, .i1⟩
  | .hbm, ⟨19, _⟩ => ⟨S_, .i32⟩
  | .hbm, ⟨20, _⟩ => ⟨S27x50000, .i32⟩
  | .hbm, ⟨21, _⟩ => ⟨S27x50000, .i32⟩
  | .hbm, ⟨22, _⟩ => ⟨S27x50000, .i32⟩
  | .hbm, ⟨23, _⟩ => ⟨S27x50000, .i32⟩
  | .hbm, ⟨24, _⟩ => ⟨S27x50000x1, .i32⟩
  | .hbm, ⟨25, _⟩ => ⟨S27x50000x1, .i32⟩
  | .hbm, ⟨26, _⟩ => ⟨S27x50000x2, .i32⟩
  | .hbm, ⟨27, _⟩ => ⟨S27x50001, .i32⟩
  | .hbm, ⟨28, _⟩ => ⟨S27x50000, .i32⟩
  | .hbm, ⟨29, _⟩ => ⟨S50000x27, .i32⟩
  | .hbm, ⟨30, _⟩ => ⟨S_, .i32⟩
  | .hbm, ⟨31, _⟩ => ⟨S_, .i32⟩
  | .hbm, ⟨32, _⟩ => ⟨S50176x27, .i32⟩
  | .hbm, ⟨33, _⟩ => ⟨S1x1354752, .i32⟩
  | .hbm, ⟨34, _⟩ => ⟨S_, .f32⟩
  | .hbm, ⟨35, _⟩ => ⟨S1x128, .f32⟩
  | .hbm, ⟨36, _⟩ => ⟨S50001x128, .f32⟩
  | .hbm, ⟨37, _⟩ => ⟨S1354752x128, .f32⟩
  | .hbm, ⟨38, _⟩ => ⟨S50176x3456, .f32⟩
  | .hbm, ⟨39, _⟩ => ⟨S3456x128, .f32⟩
  | .hbm, ⟨40, _⟩ => ⟨S1x128, .f32⟩
  | .hbm, ⟨41, _⟩ => ⟨S50176x128, .f32⟩
  | .hbm, ⟨42, _⟩ => ⟨S50000x128, .f32⟩
  | .local .tc .vmem, ⟨0, _⟩ => ⟨S448x3456, .f32⟩
  | .local .tc .vmem, ⟨1, _⟩ => ⟨S448x3456, .f32⟩
  | .local .tc .vmem, ⟨2, _⟩ => ⟨S3456x128, .f32⟩
  | .local .tc .vmem, ⟨3, _⟩ => ⟨S1x128, .f32⟩
  | .local .tc .vmem, ⟨4, _⟩ => ⟨S448x128, .f32⟩
  | .local .tc .vmem, ⟨5, _⟩ => ⟨S448x128, .f32⟩
  | .local .scVector .vmem, ⟨0, _⟩ => ⟨S2x1x128, .i32⟩
  | .local .scVector .vmem, ⟨1, _⟩ => ⟨S2x128x128, .f32⟩
  | _, _ => ⟨S50000x128, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_4 : Ref sig .tc := ⟨.hbm, 30, rfl⟩
abbrev main_call0_v0 : Ref sig .tc := ⟨.hbm, 31, rfl⟩
abbrev main_v20 : Ref sig .tc := ⟨.hbm, 32, rfl⟩
abbrev main_v21 : Ref sig .tc := ⟨.hbm, 33, rfl⟩
abbrev main_cst : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v23_scv : Ref sig .scVector := ⟨.hbm, 36, rfl⟩
abbrev main_v21_scv : Ref sig .scVector := ⟨.hbm, 33, rfl⟩
abbrev main_v24_scv : Ref sig .scVector := ⟨.hbm, 37, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg2_0 : Ref sig .tc := ⟨.vmem, 3, rfl⟩
abbrev cc1_stg3_0 : Ref sig .tc := ⟨.vmem, 4, rfl⟩
abbrev cc1_stg3_1 : Ref sig .tc := ⟨.vmem, 5, rfl⟩
abbrev cc0_scoped0 : Ref sig .scVector := ⟨.vmem, 0, rfl⟩
abbrev cc0_scoped2 : Ref sig .scVector := ⟨.vmem, 1, rfl⟩
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v11 : BitVec 32 := Scalar.muli c1_i32_3 v5
  let c0_i32_5_r0 : BitVec 32 := 0#32
  let v14_r0 : BitVec 1 := Scalar.cmpi .sgt v11 c0_i32_5_r0
  let v15_r0 : BitVec 32 := Scalar.extui v14_r0
  let c0_i32_6_r0 : BitVec 32 := 0#32
  let v16_r0 : BitVec 1 := Scalar.cmpi .ne v15_r0 c0_i32_6_r0
  v16_r0

def k0_cond2 (i : grid0.Coords) : BitVec 1 :=
  let true_22_r0 : BitVec 1 := 1#1
  let c1_i32_7_r0 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v17_r0 : BitVec 32 := Scalar.muli c1_i32_7_r0 v5
  let c0_i32_21_r0 : BitVec 32 := 0#32
  let v35_r0 : BitVec 1 := Scalar.cmpi .sgt v17_r0 c0_i32_21_r0
  let v36_r0 : BitVec 1 := Scalar.andi true_22_r0 v35_r0
  let true_23_r0 : BitVec 1 := 1#1
  let v37_r0 : BitVec 1 := Scalar.andi v36_r0 true_23_r0
  let v38_r0 : BitVec 32 := Scalar.extui v37_r0
  let c0_i32_25_r0 : BitVec 32 := 0#32
  let v39_r0 : BitVec 1 := Scalar.cmpi .ne v38_r0 c0_i32_25_r0
  v39_r0

def k0_off1 : Fin 3 → Nat :=
  let c0_i32_24_r0 : BitVec 32 := 0#32
  let c2_i32_r0 : BitVec 32 := 2#32
  let v80_r0 : BitVec 32 := Scalar.remui c0_i32_24_r0 c2_i32_r0
  let c0_i32_57_r0 : BitVec 32 := 0#32
  let c0_i32_58_r0 : BitVec 32 := 0#32
  ![v80_r0.toNat, 0, 0]
def k0_off2 (i : grid0.Coords) : Fin 2 → Nat :=
  let c0_i32_59_r0 : BitVec 32 := 0#32
  let c128_i32_r0 : BitVec 32 := 128#32
  let c0_i32_10_r0 : BitVec 32 := 0#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v20_r0 : BitVec 32 := Scalar.addi c0_i32_10_r0 v10
  let v81_r0 : BitVec 32 := Scalar.muli c128_i32_r0 v20_r0
  ![0, v81_r0.toNat]
def k0_off3 : Fin 1 → Nat :=
  let c0_i32_24_r0 : BitVec 32 := 0#32
  let c2_i32_r0 : BitVec 32 := 2#32
  let v80_r0 : BitVec 32 := Scalar.remui c0_i32_24_r0 c2_i32_r0
  ![v80_r0.toNat]
@[reducible] def k0_t1_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_35_r0 : BitVec 32 := 1#32
  ⟨c0_i32_29_r0, v46_r0, c1_i32_35_r0⟩
def k0_off4 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond3 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off5 (i : grid0.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v93_r0 : BitVec 1 := Scalar.cmpi .eq v92_r0 v5
  let c0_i32_66_r0 : BitVec 32 := 0#32
  let v94_r0 : BitVec 32 := Scalar.select v93_r0 c0_i32_66_r0 v92_r0
  let c24_i32_0 : BitVec 32 := 24#32
  let v6 : BitVec 1 := Scalar.cmpi .slt v3 c24_i32_0
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k0_off6 (arg6_r0 : BitVec 32) : Fin 1 → Nat :=
  let c2_i32_101_r0 : BitVec 32 := 2#32
  let v167_r0 : BitVec 32 := Scalar.remui arg6_r0 c2_i32_101_r0
  ![v167_r0.toNat]
def k0_off7 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond4 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off8 (i : grid0.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k0_off9 (arg7_r0 : BitVec 32) : Fin 1 → Nat :=
  let c2_i32_101_r0 : BitVec 32 := 2#32
  let v168_r0 : BitVec 32 := Scalar.remui arg7_r0 c2_i32_101_r0
  ![v168_r0.toNat]
def k0_off10 (arg8_r0 : BitVec 32) : Fin 3 → Nat :=
  let c2_i32_84_r0 : BitVec 32 := 2#32
  let v132_r0 : BitVec 32 := Scalar.remui arg8_r0 c2_i32_84_r0
  let c0_i32_101_r1 : BitVec 32 := 0#32
  let c0_i32_102_r1 : BitVec 32 := 0#32
  ![v132_r0.toNat, 0, 0]

def k0_chk2 (i : grid0.Coords) (arg8_r0 : BitVec 32) : Prop :=
  (∀ (k0_h1 : k0_cond1 i = 1#1), ∀ a, (k0_off10 arg8_r0) a + S1x128x128.size a ≤ S2x128x128.size a)
theorem k0_off10_inb : ∀ (i : grid0.Coords) (arg8_r0 : BitVec 32) (k0_hw2 : k0_chk2 i arg8_r0), ∀ (k0_h1 : k0_cond1 i = 1#1), ∀ a, (k0_off10 arg8_r0) a + S1x128x128.size a ≤ S2x128x128.size a := fun i arg8_r0 k0_hw2 k0_h1 => k0_hw2 k0_h1

def k0_off11 (arg7_r0 : BitVec 32) : Fin 3 → Nat :=
  let c2_i32_83_r0 : BitVec 32 := 2#32
  let v131_r0 : BitVec 32 := Scalar.remui arg7_r0 c2_i32_83_r0
  let c0_i32_103_r1 : BitVec 32 := 0#32
  let c0_i32_104_r1 : BitVec 32 := 0#32
  ![v131_r0.toNat, 0, 0]

def k0_chk3 (i : grid0.Coords) (arg7_r0 : BitVec 32) : Prop :=
  (∀ (k0_h1 : k0_cond1 i = 1#1), ∀ a, (k0_off11 arg7_r0) a + S1x1x128.size a ≤ S2x1x128.size a)
theorem k0_off11_inb : ∀ (i : grid0.Coords) (arg7_r0 : BitVec 32) (k0_hw3 : k0_chk3 i arg7_r0), ∀ (k0_h1 : k0_cond1 i = 1#1), ∀ a, (k0_off11 arg7_r0) a + S1x1x128.size a ≤ S2x1x128.size a := fun i arg7_r0 k0_hw3 k0_h1 => k0_hw3 k0_h1

def k0_off12 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond7 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_35_r0 : BitVec 32 := 1#32
  let arg5_r0 : BitVec 32 := Scf.iv c0_i32_29_r0 c1_i32_35_r0 k0_t1
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off13 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k0_off14 (arg8_r0 : BitVec 32) : Fin 1 → Nat :=
  let c2_i32_101_r0 : BitVec 32 := 2#32
  let v167_r0 : BitVec 32 := Scalar.remui arg8_r0 c2_i32_101_r0
  ![v167_r0.toNat]
def k0_off15 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond9 (i : grid0.Coords) (k0_t1 : Fin (k0_t1_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_35_r0 : BitVec 32 := 1#32
  let arg5_r0 : BitVec 32 := Scf.iv c0_i32_29_r0 c1_i32_35_r0 k0_t1
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off16 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let c1_i32_63_r0 : BitVec 32 := 1#32
  let v88_r0 : BitVec 32 := Scalar.subi v5 c1_i32_63_r0
  let v89_r0 : BitVec 32 := Scalar.select v87_r0 v88_r0 v86_r0
  let c24_i32_0 : BitVec 32 := 24#32
  let v6 : BitVec 1 := Scalar.cmpi .slt v3 c24_i32_0
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k0_off17 (arg9_r0 : BitVec 32) : Fin 1 → Nat :=
  let c2_i32_101_r0 : BitVec 32 := 2#32
  let v167_r0 : BitVec 32 := Scalar.remui arg9_r0 c2_i32_101_r0
  ![v167_r0.toNat]

def k0_chk1 (i : grid0.Coords) (k0_t1 : Fin (k0_t1_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h3 : k0_cond3 i k0_t1 arg10_r0 = 1#1), ∀ a, (k0_off4 arg6_r0) a + S1x1x128.size a ≤ S2x1x128.size a) ∧
  (∀ (k0_h1 : k0_cond1 i = 1#1), ∀ (k0_h3 : k0_cond3 i k0_t1 arg10_r0 = 1#1), ∀ a, (k0_off5 i arg10_r0) a + S1x128.size a ≤ S1x1354752.size a) ∧
  (∀ (k0_h1 : k0_cond1 i = 1#1), ∀ (k0_h3 : k0_cond3 i k0_t1 arg10_r0 = 1#1), ∀ a, (k0_off6 arg6_r0) a + S1.size a ≤ S2.size a) ∧
  (∀ (k0_h1 : k0_cond1 i = 1#1), ∀ (k0_h4 : k0_cond4 i k0_t1 arg10_r0 = 1#1), ∀ a, (k0_off7 arg7_r0) a + S1x1x128.size a ≤ S2x1x128.size a) ∧
  (∀ (k0_h1 : k0_cond1 i = 1#1), ∀ (k0_h4 : k0_cond4 i k0_t1 arg10_r0 = 1#1), ∀ a, (k0_off8 i arg10_r0) a + S1x128.size a ≤ S1x1354752.size a) ∧
  (∀ (k0_h1 : k0_cond1 i = 1#1), ∀ (k0_h4 : k0_cond4 i k0_t1 arg10_r0 = 1#1), ∀ a, (k0_off9 arg7_r0) a + S1.size a ≤ S2.size a) ∧
  (∀ (k0_h1 : k0_cond1 i = 1#1), ∀ (k0_h7 : k0_cond7 i k0_t1 arg10_r0 = 1#1), ∀ a, (k0_off12 arg8_r0) a + S1x128x128.size a ≤ S2x128x128.size a) ∧
  (∀ (k0_h1 : k0_cond1 i = 1#1), ∀ (k0_h7 : k0_cond7 i k0_t1 arg10_r0 = 1#1), ∀ a, (k0_off13 i arg10_r0) a + S128x128.size a ≤ S1354752x128.size a) ∧
  (∀ (k0_h1 : k0_cond1 i = 1#1), ∀ (k0_h7 : k0_cond7 i k0_t1 arg10_r0 = 1#1), ∀ a, (k0_off14 arg8_r0) a + S1.size a ≤ S2.size a) ∧
  (∀ (k0_h1 : k0_cond1 i = 1#1), ∀ (k0_h9 : k0_cond9 i k0_t1 arg10_r0 = 1#1), ∀ a, (k0_off15 arg9_r0) a + S1x128x128.size a ≤ S2x128x128.size a) ∧
  (∀ (k0_h1 : k0_cond1 i = 1#1), ∀ (k0_h9 : k0_cond9 i k0_t1 arg10_r0 = 1#1), ∀ a, (k0_off16 i arg10_r0) a + S128x128.size a ≤ S1354752x128.size a) ∧
  (∀ (k0_h1 : k0_cond1 i = 1#1), ∀ (k0_h9 : k0_cond9 i k0_t1 arg10_r0 = 1#1), ∀ a, (k0_off17 arg9_r0) a + S1.size a ≤ S2.size a)
theorem k0_off4_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off4 arg6_r0) a + S1x1x128.size a ≤ S2x1x128.size a := fun i k0_t1 arg6_r0 arg7_r0 arg8_r0 arg9_r0 arg10_r0 k0_hw1 k0_h1 k0_h3 => k0_hw1.1 k0_h1 k0_h3
theorem k0_off5_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off5 i arg10_r0) a + S1x128.size a ≤ S1x1354752.size a := fun i k0_t1 arg6_r0 arg7_r0 arg8_r0 arg9_r0 arg10_r0 k0_hw1 k0_h1 k0_h3 => k0_hw1.2.1 k0_h1 k0_h3
theorem k0_off6_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h3 : k0_cond3 i k0_t1 arg10_r0 = 1#1), ∀ a, (k0_off6 arg6_r0) a + S1.size a ≤ S2.size a := fun i k0_t1 arg6_r0 arg7_r0 arg8_r0 arg9_r0 arg10_r0 k0_hw1 k0_h1 k0_h3 => k0_hw1.2.2.1 k0_h1 k0_h3
theorem k0_off7_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off7 arg7_r0) a + S1x1x128.size a ≤ S2x1x128.size a := fun i k0_t1 arg6_r0 arg7_r0 arg8_r0 arg9_r0 arg10_r0 k0_hw1 k0_h1 k0_h4 => k0_hw1.2.2.2.1 k0_h1 k0_h4
theorem k0_off8_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off8 i arg10_r0) a + S1x128.size a ≤ S1x1354752.size a := fun i k0_t1 arg6_r0 arg7_r0 arg8_r0 arg9_r0 arg10_r0 k0_hw1 k0_h1 k0_h4 => k0_hw1.2.2.2.2.1 k0_h1 k0_h4
theorem k0_off9_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h4 : k0_cond4 i k0_t1 arg10_r0 = 1#1), ∀ a, (k0_off9 arg7_r0) a + S1.size a ≤ S2.size a := fun i k0_t1 arg6_r0 arg7_r0 arg8_r0 arg9_r0 arg10_r0 k0_hw1 k0_h1 k0_h4 => k0_hw1.2.2.2.2.2.1 k0_h1 k0_h4
theorem k0_off12_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off12 arg8_r0) a + S1x128x128.size a ≤ S2x128x128.size a := fun i k0_t1 arg6_r0 arg7_r0 arg8_r0 arg9_r0 arg10_r0 k0_hw1 k0_h1 k0_h7 => k0_hw1.2.2.2.2.2.2.1 k0_h1 k0_h7
theorem k0_off13_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off13 i arg10_r0) a + S128x128.size a ≤ S1354752x128.size a := fun i k0_t1 arg6_r0 arg7_r0 arg8_r0 arg9_r0 arg10_r0 k0_hw1 k0_h1 k0_h7 => k0_hw1.2.2.2.2.2.2.2.1 k0_h1 k0_h7
theorem k0_off14_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h7 : k0_cond7 i k0_t1 arg10_r0 = 1#1), ∀ a, (k0_off14 arg8_r0) a + S1.size a ≤ S2.size a := fun i k0_t1 arg6_r0 arg7_r0 arg8_r0 arg9_r0 arg10_r0 k0_hw1 k0_h1 k0_h7 => k0_hw1.2.2.2.2.2.2.2.2.1 k0_h1 k0_h7
theorem k0_off15_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off15 arg9_r0) a + S1x128x128.size a ≤ S2x128x128.size a := fun i k0_t1 arg6_r0 arg7_r0 arg8_r0 arg9_r0 arg10_r0 k0_hw1 k0_h1 k0_h9 => k0_hw1.2.2.2.2.2.2.2.2.2.1 k0_h1 k0_h9
theorem k0_off16_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off16 i arg10_r0) a + S128x128.size a ≤ S1354752x128.size a := fun i k0_t1 arg6_r0 arg7_r0 arg8_r0 arg9_r0 arg10_r0 k0_hw1 k0_h1 k0_h9 => k0_hw1.2.2.2.2.2.2.2.2.2.2.1 k0_h1 k0_h9
theorem k0_off17_inb : ∀ (i : grid0.Coords) (k0_t1 : Fin (k0_t1_loop i).trips) (arg6_r0 : BitVec 32) (arg7_r0 : BitVec 32) (arg8_r0 : BitVec 32) (arg9_r0 : BitVec 32) (arg10_r0 : BitVec 32) (k0_hw1 : k0_chk1 i k0_t1 arg6_r0 arg7_r0 arg8_r0 arg9_r0 arg10_r0), ∀ (k0_h1 : k0_cond1 i = 1#1), ∀ (k0_h9 : k0_cond9 i k0_t1 arg10_r0 = 1#1), ∀ a, (k0_off17 arg9_r0) a + S1.size a ≤ S2.size a := fun i k0_t1 arg6_r0 arg7_r0 arg8_r0 arg9_r0 arg10_r0 k0_hw1 k0_h1 k0_h9 => k0_hw1.2.2.2.2.2.2.2.2.2.2.2 k0_h1 k0_h9

@[reducible] def k0_t2_loop (i : grid0.Coords) : Scf.Loop 32 :=
  let c0_i32_29_r0 : BitVec 32 := 0#32
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let v43_r0 : BitVec 32 := Scalar.addi c0_i32_29_r0 v42_r0
  let c1_i32_36_r0 : BitVec 32 := 1#32
  ⟨v46_r0, v43_r0, c1_i32_36_r0⟩
def k0_off18 (arg6_r0 : BitVec 32) : Fin 3 → Nat :=
  let c2_i32_101_r0 : BitVec 32 := 2#32
  let v167_r0 : BitVec 32 := Scalar.remui arg6_r0 c2_i32_101_r0
  let c0_i32_102_r0 : BitVec 32 := 0#32
  let c0_i32_103_r0 : BitVec 32 := 0#32
  ![v167_r0.toNat, 0, 0]
def k0_cond10 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v101_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c2_i32_r0 : BitVec 32 := 2#32
  let v102_r0 : BitVec 32 := Scalar.subi v80_r0 c2_i32_r0
  let c1_i32_70_r0 : BitVec 32 := 1#32
  let v103_r0 : BitVec 32 := Scalar.addi v102_r0 c1_i32_70_r0
  let v104_r0 : BitVec 1 := Scalar.cmpi .sge arg5_r0 v103_r0
  let true_71_r0 : BitVec 1 := 1#1
  let v105_r0 : BitVec 1 := Scalar.xori v104_r0 true_71_r0
  let v106_r0 : BitVec 1 := Scalar.andi v101_r0 v105_r0
  let true_72_r0 : BitVec 1 := 1#1
  let v107_r0 : BitVec 1 := Scalar.andi v106_r0 true_72_r0
  let v108_r0 : BitVec 32 := Scalar.extui v107_r0
  let c0_i32_73_r0 : BitVec 32 := 0#32
  let v109_r0 : BitVec 1 := Scalar.cmpi .ne v108_r0 c0_i32_73_r0
  v109_r0

def k0_off19 (i : grid0.Coords) (arg10_r0 : BitVec 32) : Fin 2 → Nat :=
  let c0_i32_104_r0 : BitVec 32 := 0#32
  let c128_i32_r0 : BitVec 32 := 128#32
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v93_r0 : BitVec 1 := Scalar.cmpi .eq v92_r0 v5
  let c0_i32_66_r0 : BitVec 32 := 0#32
  let v94_r0 : BitVec 32 := Scalar.select v93_r0 c0_i32_66_r0 v92_r0
  let c24_i32_0 : BitVec 32 := 24#32
  let v6 : BitVec 1 := Scalar.cmpi .slt v3 c24_i32_0
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v95_r0 : BitVec 32 := Scalar.addi v94_r0 v10
  let v168_r0 : BitVec 32 := Scalar.muli c128_i32_r0 v95_r0
  ![0, v168_r0.toNat]
def k0_off20 (arg6_r0 : BitVec 32) : Fin 1 → Nat :=
  let c2_i32_101_r0 : BitVec 32 := 2#32
  let v167_r0 : BitVec 32 := Scalar.remui arg6_r0 c2_i32_101_r0
  ![v167_r0.toNat]
def k0_off21 (arg7_r0 : BitVec 32) : Fin 3 → Nat :=
  let c2_i32_101_r0 : BitVec 32 := 2#32
  let v168_r0 : BitVec 32 := Scalar.remui arg7_r0 c2_i32_101_r0
  let c0_i32_102_r0 : BitVec 32 := 0#32
  let c0_i32_103_r0 : BitVec 32 := 0#32
  ![v168_r0.toNat, 0, 0]
def k0_cond11 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v119_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let v120_r0 : BitVec 1 := Scalar.ori v119_r0 v81_r0
  let c0_i32_79_r0 : BitVec 32 := 0#32
  let v121_r0 : BitVec 1 := Scalar.cmpi .sge arg5_r0 c0_i32_79_r0
  let v122_r0 : BitVec 1 := Scalar.andi v120_r0 v121_r0
  let v123_r0 : BitVec 32 := Scalar.extui v122_r0
  let c0_i32_80_r0 : BitVec 32 := 0#32
  let v124_r0 : BitVec 1 := Scalar.cmpi .ne v123_r0 c0_i32_80_r0
  v124_r0

def k0_off22 (i : grid0.Coords) (arg10_r0 : BitVec 32) : Fin 2 → Nat :=
  let c0_i32_104_r0 : BitVec 32 := 0#32
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let v167_r0 : BitVec 32 := Scalar.muli c128_i32_r0 v84_r0
  ![0, v167_r0.toNat]
def k0_off23 (arg7_r0 : BitVec 32) : Fin 1 → Nat :=
  let c2_i32_101_r0 : BitVec 32 := 2#32
  let v168_r0 : BitVec 32 := Scalar.remui arg7_r0 c2_i32_101_r0
  ![v168_r0.toNat]
def k0_off24 (arg8_r0 : BitVec 32) : Fin 3 → Nat :=
  let c2_i32_84_r0 : BitVec 32 := 2#32
  let v132_r0 : BitVec 32 := Scalar.remui arg8_r0 c2_i32_84_r0
  let c0_i32_101_r2 : BitVec 32 := 0#32
  let c0_i32_102_r2 : BitVec 32 := 0#32
  ![v132_r0.toNat, 0, 0]

def k0_chk5 (i : grid0.Coords) (k0_t2 : Fin (k0_t2_loop i).trips) (arg8_r0 : BitVec 32) : Prop :=
  (∀ (k0_h1 : k0_cond1 i = 1#1), ∀ a, (k0_off24 arg8_r0) a + S1x128x128.size a ≤ S2x128x128.size a)
theorem k0_off24_inb : ∀ (i : grid0.Coords) (k0_t2 : Fin (k0_t2_loop i).trips) (arg8_r0 : BitVec 32) (k0_hw5 : k0_chk5 i k0_t2 arg8_r0), ∀ (k0_h1 : k0_cond1 i = 1#1), ∀ a, (k0_off24 arg8_r0) a + S1x128x128.size a ≤ S2x128x128.size a := fun i k0_t2 arg8_r0 k0_hw5 k0_h1 => k0_hw5 k0_h1

def k0_off25 (arg7_r0 : BitVec 32) : Fin 3 → Nat :=
  let c2_i32_83_r0 : BitVec 32 := 2#32
  let v131_r0 : BitVec 32 := Scalar.remui arg7_r0 c2_i32_83_r0
  let c0_i32_103_r2 : BitVec 32 := 0#32
  let c0_i32_104_r2 : BitVec 32 := 0#32
  ![v131_r0.toNat, 0, 0]

def k0_chk6 (i : grid0.Coords) (k0_t2 : Fin (k0_t2_loop i).trips) (arg7_r0 : BitVec 32) : Prop :=
  (∀ (k0_h1 : k0_cond1 i = 1#1), ∀ a, (k0_off25 arg7_r0) a + S1x1x128.size a ≤ S2x1x128.size a)
theorem k0_off25_inb : ∀ (i : grid0.Coords) (k0_t2 : Fin (k0_t2_loop i).trips) (arg7_r0 : BitVec 32) (k0_hw6 : k0_chk6 i k0_t2 arg7_r0), ∀ (k0_h1 : k0_cond1 i = 1#1), ∀ a, (k0_off25 arg7_r0) a + S1x1x128.size a ≤ S2x1x128.size a := fun i k0_t2 arg7_r0 k0_hw6 k0_h1 => k0_hw6 k0_h1

def k0_off26 (arg8_r0 : BitVec 32) : Fin 3 → Nat :=
  let c2_i32_101_r0 : BitVec 32 := 2#32
  let v167_r0 : BitVec 32 := Scalar.remui arg8_r0 c2_i32_101_r0
  let c0_i32_102_r0 : BitVec 32 := 0#32
  let c0_i32_103_r0 : BitVec 32 := 0#32
  ![v167_r0.toNat, 0, 0]
def k0_cond14 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_65_r0 : BitVec 1 := 1#1
  let c1_i32_64_r0 : BitVec 32 := 1#32
  let v91_r0 : BitVec 32 := Scalar.addi arg10_r0 c1_i32_64_r0
  let v92_r0 : BitVec 32 := Scalar.select true_65_r0 v91_r0 arg10_r0
  let v93_r0 : BitVec 1 := Scalar.cmpi .eq v92_r0 v5
  let c0_i32_66_r0 : BitVec 32 := 0#32
  let v94_r0 : BitVec 32 := Scalar.select v93_r0 c0_i32_66_r0 v92_r0
  let v95_r0 : BitVec 32 := Scalar.addi v94_r0 v10
  let v138_r0 : BitVec 1 := Scalar.cmpi .ne v84_r0 v95_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c1_i32_57_r0 : BitVec 32 := 1#32
  let v80_r0 : BitVec 32 := Scalar.muli c1_i32_57_r0 v5
  let c1_i32_59_r0 : BitVec 32 := 1#32
  let v82_r0 : BitVec 32 := Scalar.subi v80_r0 c1_i32_59_r0
  let v83_r0 : BitVec 1 := Scalar.cmpi .eq arg5_r0 v82_r0
  let v139_r0 : BitVec 1 := Scalar.ori v138_r0 v83_r0
  let v140_r0 : BitVec 32 := Scalar.extui v139_r0
  let c0_i32_87_r0 : BitVec 32 := 0#32
  let v141_r0 : BitVec 1 := Scalar.cmpi .ne v140_r0 c0_i32_87_r0
  v141_r0

def k0_off27 (i : grid0.Coords) (arg10_r0 : BitVec 32) : Fin 2 → Nat :=
  let c128_i32_r0 : BitVec 32 := 128#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let v168_r0 : BitVec 32 := Scalar.muli c128_i32_r0 v84_r0
  let c0_i32_104_r0 : BitVec 32 := 0#32
  ![v168_r0.toNat, 0]
def k0_off28 (arg8_r0 : BitVec 32) : Fin 1 → Nat :=
  let c2_i32_101_r0 : BitVec 32 := 2#32
  let v167_r0 : BitVec 32 := Scalar.remui arg8_r0 c2_i32_101_r0
  ![v167_r0.toNat]
def k0_off29 (arg9_r0 : BitVec 32) : Fin 3 → Nat :=
  let c2_i32_101_r0 : BitVec 32 := 2#32
  let v167_r0 : BitVec 32 := Scalar.remui arg9_r0 c2_i32_101_r0
  let c0_i32_102_r0 : BitVec 32 := 0#32
  let c0_i32_103_r0 : BitVec 32 := 0#32
  ![v167_r0.toNat, 0, 0]
def k0_cond16 (i : grid0.Coords) (k0_t2 : Fin (k0_t2_loop i).trips) (arg10_r0 : BitVec 32) : BitVec 1 :=
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32_0 : BitVec 32 := 24#32
  let v6 : BitVec 1 := Scalar.cmpi .slt v3 c24_i32_0
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v84_r0 : BitVec 32 := Scalar.addi arg10_r0 v10
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c1_i32_63_r0 : BitVec 32 := 1#32
  let v88_r0 : BitVec 32 := Scalar.subi v5 c1_i32_63_r0
  let v89_r0 : BitVec 32 := Scalar.select v87_r0 v88_r0 v86_r0
  let v90_r0 : BitVec 32 := Scalar.addi v89_r0 v10
  let v151_r0 : BitVec 1 := Scalar.cmpi .ne v84_r0 v90_r0
  let c0_i32_29_r0 : BitVec 32 := 0#32
  let c1_i32_3 : BitVec 32 := 1#32
  let v11 : BitVec 32 := Scalar.muli c1_i32_3 v5
  let v42_r0 : BitVec 32 := Scalar.subi v11 c0_i32_29_r0
  let c1_i32_34_r0 : BitVec 32 := 1#32
  let v44_r0 : BitVec 32 := Scalar.divsi v42_r0 c1_i32_34_r0
  let v45_r0 : BitVec 32 := Scalar.muli v44_r0 c1_i32_34_r0
  let v46_r0 : BitVec 32 := Scalar.addi c0_i32_29_r0 v45_r0
  let c1_i32_36_r0 : BitVec 32 := 1#32
  let arg5_r0 : BitVec 32 := Scf.iv v46_r0 c1_i32_36_r0 k0_t2
  let c0_i32_58_r0 : BitVec 32 := 0#32
  let v81_r0 : BitVec 1 := Scalar.cmpi .eq arg5_r0 c0_i32_58_r0
  let true_93_r0 : BitVec 1 := 1#1
  let v152_r0 : BitVec 1 := Scalar.xori v81_r0 true_93_r0
  let v153_r0 : BitVec 1 := Scalar.andi v151_r0 v152_r0
  let v154_r0 : BitVec 32 := Scalar.extui v153_r0
  let c0_i32_94_r0 : BitVec 32 := 0#32
  let v155_r0 : BitVec 1 := Scalar.cmpi .ne v154_r0 c0_i32_94_r0
  v155_r0

def k0_off30 (i : grid0.Coords) (arg10_r0 : BitVec 32) : Fin 2 → Nat :=
  let c128_i32_r0 : BitVec 32 := 128#32
  let true_61_r0 : BitVec 1 := 1#1
  let c1_i32_60_r0 : BitVec 32 := 1#32
  let v85_r0 : BitVec 32 := Scalar.subi arg10_r0 c1_i32_60_r0
  let v86_r0 : BitVec 32 := Scalar.select true_61_r0 v85_r0 arg10_r0
  let c_m1_i32_62_r0 : BitVec 32 := 4294967295#32
  let v87_r0 : BitVec 1 := Scalar.cmpi .eq v86_r0 c_m1_i32_62_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let c1_i32_63_r0 : BitVec 32 := 1#32
  let v88_r0 : BitVec 32 := Scalar.subi v5 c1_i32_63_r0
  let v89_r0 : BitVec 32 := Scalar.select v87_r0 v88_r0 v86_r0
  let c24_i32_0 : BitVec 32 := 24#32
  let v6 : BitVec 1 := Scalar.cmpi .slt v3 c24_i32_0
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v90_r0 : BitVec 32 := Scalar.addi v89_r0 v10
  let v168_r0 : BitVec 32 := Scalar.muli c128_i32_r0 v90_r0
  let c0_i32_104_r0 : BitVec 32 := 0#32
  ![v168_r0.toNat, 0]
def k0_off31 (arg9_r0 : BitVec 32) : Fin 1 → Nat :=
  let c2_i32_101_r0 : BitVec 32 := 2#32
  let v167_r0 : BitVec 32 := Scalar.remui arg9_r0 c2_i32_101_r0
  ![v167_r0.toNat]

def k0_chk4 (i : grid0.Coords) (k0_t2 : Fin (k0_t2_loop i).trips) (arg6_r0 : BitVec 32) (arg7_r0 : BitVec 32) (arg8_r0 : BitVec 32) (arg9_r0 : BitVec 32) (arg10_r0 : BitVec 32) : Prop :=
  (∀ (k0_h1 : k0_cond1 i = 1#1), ∀ (k0_h10 : k0_cond10 i k0_t2 arg10_r0 = 1#1), ∀ a, (k0_off18 arg6_r0) a + S1x1x128.size a ≤ S2x1x128.size a) ∧
  (∀ (k0_h1 : k0_cond1 i = 1#1), ∀ (k0_h10 : k0_cond10 i k0_t2 arg10_r0 = 1#1), ∀ a, (k0_off19 i arg10_r0) a + S1x128.size a ≤ S1x1354752.size a) ∧
  (∀ (k0_h1 : k0_cond1 i = 1#1), ∀ (k0_h10 : k0_cond10 i k0_t2 arg10_r0 = 1#1), ∀ a, (k0_off20 arg6_r0) a + S1.size a ≤ S2.size a) ∧
  (∀ (k0_h1 : k0_cond1 i = 1#1), ∀ (k0_h11 : k0_cond11 i k0_t2 arg10_r0 = 1#1), ∀ a, (k0_off21 arg7_r0) a + S1x1x128.size a ≤ S2x1x128.size a) ∧
  (∀ (k0_h1 : k0_cond1 i = 1#1), ∀ (k0_h11 : k0_cond11 i k0_t2 arg10_r0 = 1#1), ∀ a, (k0_off22 i arg10_r0) a + S1x128.size a ≤ S1x1354752.size a) ∧
  (∀ (k0_h1 : k0_cond1 i = 1#1), ∀ (k0_h11 : k0_cond11 i k0_t2 arg10_r0 = 1#1), ∀ a, (k0_off23 arg7_r0) a + S1.size a ≤ S2.size a) ∧
  (∀ (k0_h1 : k0_cond1 i = 1#1), ∀ (k0_h14 : k0_cond14 i k0_t2 arg10_r0 = 1#1), ∀ a, (k0_off26 arg8_r0) a + S1x128x128.size a ≤ S2x128x128.size a) ∧
  (∀ (k0_h1 : k0_cond1 i = 1#1), ∀ (k0_h14 : k0_cond14 i k0_t2 arg10_r0 = 1#1), ∀ a, (k0_off27 i arg10_r0) a + S128x128.size a ≤ S1354752x128.size a) ∧
  (∀ (k0_h1 : k0_cond1 i = 1#1), ∀ (k0_h14 : k0_cond14 i k0_t2 arg10_r0 = 1#1), ∀ a, (k0_off28 arg8_r0) a + S1.size a ≤ S2.size a) ∧
  (∀ (k0_h1 : k0_cond1 i = 1#1), ∀ (k0_h16 : k0_cond16 i k0_t2 arg10_r0 = 1#1), ∀ a, (k0_off29 arg9_r0) a + S1x128x128.size a ≤ S2x128x128.size a) ∧
  (∀ (k0_h1 : k0_cond1 i = 1#1), ∀ (k0_h16 : k0_cond16 i k0_t2 arg10_r0 = 1#1), ∀ a, (k0_off30 i arg10_r0) a + S128x128.size a ≤ S1354752x128.size a) ∧
  (∀ (k0_h1 : k0_cond1 i = 1#1), ∀ (k0_h16 : k0_cond16 i k0_t2 arg10_r0 = 1#1), ∀ a, (k0_off31 arg9_r0) a + S1.size a ≤ S2.size a)
theorem k0_off18_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off18 arg6_r0) a + S1x1x128.size a ≤ S2x1x128.size a := fun i k0_t2 arg6_r0 arg7_r0 arg8_r0 arg9_r0 arg10_r0 k0_hw4 k0_h1 k0_h10 => k0_hw4.1 k0_h1 k0_h10
theorem k0_off19_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off19 i arg10_r0) a + S1x128.size a ≤ S1x1354752.size a := fun i k0_t2 arg6_r0 arg7_r0 arg8_r0 arg9_r0 arg10_r0 k0_hw4 k0_h1 k0_h10 => k0_hw4.2.1 k0_h1 k0_h10
theorem k0_off20_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h10 : k0_cond10 i k0_t2 arg10_r0 = 1#1), ∀ a, (k0_off20 arg6_r0) a + S1.size a ≤ S2.size a := fun i k0_t2 arg6_r0 arg7_r0 arg8_r0 arg9_r0 arg10_r0 k0_hw4 k0_h1 k0_h10 => k0_hw4.2.2.1 k0_h1 k0_h10
theorem k0_off21_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off21 arg7_r0) a + S1x1x128.size a ≤ S2x1x128.size a := fun i k0_t2 arg6_r0 arg7_r0 arg8_r0 arg9_r0 arg10_r0 k0_hw4 k0_h1 k0_h11 => k0_hw4.2.2.2.1 k0_h1 k0_h11
theorem k0_off22_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off22 i arg10_r0) a + S1x128.size a ≤ S1x1354752.size a := fun i k0_t2 arg6_r0 arg7_r0 arg8_r0 arg9_r0 arg10_r0 k0_hw4 k0_h1 k0_h11 => k0_hw4.2.2.2.2.1 k0_h1 k0_h11
theorem k0_off23_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h11 : k0_cond11 i k0_t2 arg10_r0 = 1#1), ∀ a, (k0_off23 arg7_r0) a + S1.size a ≤ S2.size a := fun i k0_t2 arg6_r0 arg7_r0 arg8_r0 arg9_r0 arg10_r0 k0_hw4 k0_h1 k0_h11 => k0_hw4.2.2.2.2.2.1 k0_h1 k0_h11
theorem k0_off26_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off26 arg8_r0) a + S1x128x128.size a ≤ S2x128x128.size a := fun i k0_t2 arg6_r0 arg7_r0 arg8_r0 arg9_r0 arg10_r0 k0_hw4 k0_h1 k0_h14 => k0_hw4.2.2.2.2.2.2.1 k0_h1 k0_h14
theorem k0_off27_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off27 i arg10_r0) a + S128x128.size a ≤ S1354752x128.size a := fun i k0_t2 arg6_r0 arg7_r0 arg8_r0 arg9_r0 arg10_r0 k0_hw4 k0_h1 k0_h14 => k0_hw4.2.2.2.2.2.2.2.1 k0_h1 k0_h14
theorem k0_off28_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h14 : k0_cond14 i k0_t2 arg10_r0 = 1#1), ∀ a, (k0_off28 arg8_r0) a + S1.size a ≤ S2.size a := fun i k0_t2 arg6_r0 arg7_r0 arg8_r0 arg9_r0 arg10_r0 k0_hw4 k0_h1 k0_h14 => k0_hw4.2.2.2.2.2.2.2.2.1 k0_h1 k0_h14
theorem k0_off29_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off29 arg9_r0) a + S1x128x128.size a ≤ S2x128x128.size a := fun i k0_t2 arg6_r0 arg7_r0 arg8_r0 arg9_r0 arg10_r0 k0_hw4 k0_h1 k0_h16 => k0_hw4.2.2.2.2.2.2.2.2.2.1 k0_h1 k0_h16
theorem k0_off30_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off30 i arg10_r0) a + S128x128.size a ≤ S1354752x128.size a := fun i k0_t2 arg6_r0 arg7_r0 arg8_r0 arg9_r0 arg10_r0 k0_hw4 k0_h1 k0_h16 => k0_hw4.2.2.2.2.2.2.2.2.2.2.1 k0_h1 k0_h16
theorem k0_off31_inb : ∀ (i : grid0.Coords) (k0_t2 : Fin (k0_t2_loop i).trips) (arg6_r0 : BitVec 32) (arg7_r0 : BitVec 32) (arg8_r0 : BitVec 32) (arg9_r0 : BitVec 32) (arg10_r0 : BitVec 32) (k0_hw4 : k0_chk4 i k0_t2 arg6_r0 arg7_r0 arg8_r0 arg9_r0 arg10_r0), ∀ (k0_h1 : k0_cond1 i = 1#1), ∀ (k0_h16 : k0_cond16 i k0_t2 arg10_r0 = 1#1), ∀ a, (k0_off31 arg9_r0) a + S1.size a ≤ S2.size a := fun i k0_t2 arg6_r0 arg7_r0 arg8_r0 arg9_r0 arg10_r0 k0_hw4 k0_h1 k0_h16 => k0_hw4.2.2.2.2.2.2.2.2.2.2.2 k0_h1 k0_h16

def k0_cond18 (i : grid0.Coords) : BitVec 1 :=
  let c1_i32_3 : BitVec 32 := 1#32
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let v11 : BitVec 32 := Scalar.muli c1_i32_3 v5
  let c1_i32_41_r0 : BitVec 32 := 1#32
  let v54_r0 : BitVec 32 := Scalar.subi v11 c1_i32_41_r0
  let c1_i32_42_r0 : BitVec 32 := 1#32
  let v55_r0 : BitVec 32 := Scalar.muli c1_i32_42_r0 v5
  let c1_i32_44_r0 : BitVec 32 := 1#32
  let v57_r0 : BitVec 32 := Scalar.subi v55_r0 c1_i32_44_r0
  let v58_r0 : BitVec 1 := Scalar.cmpi .eq v54_r0 v57_r0
  let v78_r0 : BitVec 32 := Scalar.extui v58_r0
  let c0_i32_56_r0 : BitVec 32 := 0#32
  let v79_r0 : BitVec 1 := Scalar.cmpi .ne v78_r0 c0_i32_56_r0
  v79_r0

def k0_off32 (v48_3_r0 : BitVec 32) : Fin 3 → Nat :=
  let c2_i32_r0 : BitVec 32 := 2#32
  let v80_r0 : BitVec 32 := Scalar.remui v48_3_r0 c2_i32_r0
  let c0_i32_57_r0 : BitVec 32 := 0#32
  let c0_i32_58_r0 : BitVec 32 := 0#32
  ![v80_r0.toNat, 0, 0]

def k0_off33 (i : grid0.Coords) (v48_4_r0 : BitVec 32) : Fin 2 → Nat :=
  let c128_i32_r0 : BitVec 32 := 128#32
  let true_38_r0 : BitVec 1 := 1#1
  let c1_i32_37_r0 : BitVec 32 := 1#32
  let v49_r0 : BitVec 32 := Scalar.subi v48_4_r0 c1_i32_37_r0
  let v50_r0 : BitVec 32 := Scalar.select true_38_r0 v49_r0 v48_4_r0
  let c_m1_i32_39_r0 : BitVec 32 := 4294967295#32
  let v51_r0 : BitVec 1 := Scalar.cmpi .eq v50_r0 c_m1_i32_39_r0
  let c0_i32 : BitVec 32 := 0#32
  let arg1 : BitVec 32 := BitVec.ofNat 32 (i 1).val
  let c1_i32 : BitVec 32 := 1#32
  let v0 : BitVec 32 := Scalar.muli arg1 c1_i32
  let v1 : BitVec 32 := Scalar.addi c0_i32 v0
  let arg0 : BitVec 32 := BitVec.ofNat 32 (i 0).val
  let c16_i32 : BitVec 32 := 16#32
  let v2 : BitVec 32 := Scalar.muli arg0 c16_i32
  let v3 : BitVec 32 := Scalar.addi v1 v2
  let c24_i32 : BitVec 32 := 24#32
  let v4 : BitVec 1 := Scalar.cmpi .slt v3 c24_i32
  let c331_i32 : BitVec 32 := 331#32
  let c330_i32 : BitVec 32 := 330#32
  let v5 : BitVec 32 := Scalar.select v4 c331_i32 c330_i32
  let c1_i32_40_r0 : BitVec 32 := 1#32
  let v52_r0 : BitVec 32 := Scalar.subi v5 c1_i32_40_r0
  let v53_r0 : BitVec 32 := Scalar.select v51_r0 v52_r0 v50_r0
  let c24_i32_0 : BitVec 32 := 24#32
  let v6 : BitVec 1 := Scalar.cmpi .slt v3 c24_i32_0
  let v7 : BitVec 32 := Scalar.muli v3 v5
  let c330_i32_1 : BitVec 32 := 330#32
  let v8 : BitVec 32 := Scalar.muli v3 c330_i32_1
  let c24_i32_2 : BitVec 32 := 24#32
  let v9 : BitVec 32 := Scalar.addi v8 c24_i32_2
  let v10 : BitVec 32 := Scalar.select v6 v7 v9
  let v59_r0 : BitVec 32 := Scalar.addi v53_r0 v10
  let v81_r0 : BitVec 32 := Scalar.muli c128_i32_r0 v59_r0
  let c0_i32_59_r0 : BitVec 32 := 0#32
  ![v81_r0.toNat, 0]

def k0_chk8 (i : grid0.Coords) (v48_4_r0 : BitVec 32) : Prop :=
  (∀ (k0_h1 : k0_cond1 i = 1#1), ∀ (k0_h18 : k0_cond18 i = 1#1), ∀ a, (k0_off33 i v48_4_r0) a + S128x128.size a ≤ S1354752x128.size a)
theorem k0_off33_inb : ∀ (i : grid0.Coords) (v48_4_r0 : BitVec 32) (k0_hw8 : k0_chk8 i v48_4_r0), ∀ (k0_h1 : k0_cond1 i = 1#1), ∀ (k0_h18 : k0_cond18 i = 1#1), ∀ a, (k0_off33 i v48_4_r0) a + S128x128.size a ≤ S1354752x128.size a := fun i v48_4_r0 k0_hw8 k0_h1 k0_h18 => k0_hw8 k0_h1 k0_h18

def k0_off34 (v48_3_r0 : BitVec 32) : Fin 1 → Nat :=
  let c2_i32_r0 : BitVec 32 := 2#32
  let v80_r0 : BitVec 32 := Scalar.remui v48_3_r0 c2_i32_r0
  ![v80_r0.toNat]
def k0_off35 (v48_3_r0 : BitVec 32) : Fin 3 → Nat :=
  let c2_i32_r0 : BitVec 32 := 2#32
  let v80_r0 : BitVec 32 := Scalar.remui v48_3_r0 c2_i32_r0
  let c0_i32_61_r0 : BitVec 32 := 0#32
  let c0_i32_62_r0 : BitVec 32 := 0#32
  ![v80_r0.toNat, 0, 0]

def k0_chk7 (i : grid0.Coords) (v48_3_r0 : BitVec 32) : Prop :=
  (∀ (k0_h1 : k0_cond1 i = 1#1), ∀ (k0_h18 : k0_cond18 i = 1#1), ∀ a, (k0_off32 v48_3_r0) a + S1x128x128.size a ≤ S2x128x128.size a) ∧
  (∀ (k0_h1 : k0_cond1 i = 1#1), ∀ (k0_h18 : k0_cond18 i = 1#1), ∀ a, (k0_off34 v48_3_r0) a + S1.size a ≤ S2.size a) ∧
  (∀ (k0_h1 : k0_cond1 i = 1#1), ∀ (k0_h18 : k0_cond18 i = 1#1), ∀ a, (k0_off35 v48_3_r0) a + S1x128x128.size a ≤ S2x128x128.size a)
theorem k0_off32_inb : ∀ (i : grid0.Coords) (v48_3_r0 : BitVec 32) (k0_hw7 : k0_chk7 i v48_3_r0), ∀ (k0_h1 : k0_cond1 i = 1#1), ∀ (k0_h18 : k0_cond18 i = 1#1), ∀ a, (k0_off32 v48_3_r0) a + S1x128x128.size a ≤ S2x128x128.size a := fun i v48_3_r0 k0_hw7 k0_h1 k0_h18 => k0_hw7.1 k0_h1 k0_h18
theorem k0_off34_inb : ∀ (i : grid0.Coords) (v48_3_r0 : BitVec 32) (k0_hw7 : k0_chk7 i v48_3_r0), ∀ (k0_h1 : k0_cond1 i = 1#1), ∀ (k0_h18 : k0_cond18 i = 1#1), ∀ a, (k0_off34 v48_3_r0) a + S1.size a ≤ S2.size a := fun i v48_3_r0 k0_hw7 k0_h1 k0_h18 => k0_hw7.2.1 k0_h1 k0_h18
theorem k0_off35_inb : ∀ (i : grid0.Coords) (v48_3_r0 : BitVec 32) (k0_hw7 : k0_chk7 i v48_3_r0), ∀ (k0_h1 : k0_cond1 i = 1#1), ∀ (k0_h18 : k0_cond18 i = 1#1), ∀ a, (k0_off35 v48_3_r0) a + S1x128x128.size a ≤ S2x128x128.size a := fun i v48_3_r0 k0_hw7 k0_h1 k0_h18 => k0_hw7.2.2 k0_h1 k0_h18

abbrev grid1 : Pipeline.Grid := ⟨1, ![112], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S448x3456 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S3456x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S448x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S50000x128 : Shape := ⟨2, ![50000, 128]⟩
abbrev S27x128x128 : Shape := ⟨3, ![27, 128, 128]⟩
abbrev S128 : Shape := ⟨1, ![128]⟩
abbrev S27x50000 : Shape := ⟨2, ![27, 50000]⟩
abbrev S_ : Shape := ⟨0, ![]⟩
abbrev S1x128 : Shape := ⟨2, ![1, 128]⟩
abbrev S50001x128 : Shape := ⟨2, ![50001, 128]⟩
abbrev S27x50000x1 : Shape := ⟨3, ![27, 50000, 1]⟩
abbrev S1 : Shape := ⟨1, ![1]⟩
abbrev S1x1x1 : Shape := ⟨3, ![1, 1, 1]⟩
abbrev S27x50000x128 : Shape := ⟨3, ![27, 50000, 128]⟩

abbrev nBuf : Space → Nat
  | .hbm => 47
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S27x128x128, .f32⟩
  | .hbm, ⟨2, _⟩ => ⟨S128, .f32⟩
  | .hbm, ⟨3, _⟩ => ⟨S27x50000, .i32⟩
  | .hbm, ⟨4, _⟩ => ⟨S27x50000, .i32⟩
  | .hbm, ⟨5, _⟩ => ⟨S_, .f32⟩
  | .hbm, ⟨6, _⟩ => ⟨S1x128, .f32⟩
  | .hbm, ⟨7, _⟩ => ⟨S50001x128, .f32⟩
  | .hbm, ⟨8, _⟩ => ⟨S_, .i32⟩
  | .hbm, ⟨9, _⟩ => ⟨S27x50000, .i32⟩
  | .hbm, ⟨10, _⟩ => ⟨S27x50000, .i1⟩
  | .hbm, ⟨11, _⟩ => ⟨S_, .i32⟩
  | .hbm, ⟨12, _⟩ => ⟨S27x50000, .i32⟩
  | .hbm, ⟨13, _⟩ => ⟨S27x50000, .i32⟩
  | .hbm, ⟨14, _⟩ => ⟨S27x50000, .i32⟩
  | .hbm, ⟨15, _⟩ => ⟨S27x50000x1, .i32⟩
  | .hbm, ⟨16, _⟩ => ⟨S1, .i32⟩
  | .hbm, ⟨17, _⟩ => ⟨S_, .i32⟩
  | .hbm, ⟨18, _⟩ => ⟨S27x50000x1, .i32⟩
  | .hbm, ⟨19, _⟩ => ⟨S27x50000x1, .i1⟩
  | .hbm, ⟨20, _⟩ => ⟨S1x1x1, .i32⟩
  | .hbm, ⟨21, _⟩ => ⟨S27x50000x1, .i32⟩
  | .hbm, ⟨22, _⟩ => ⟨S27x50000x1, .i1⟩
  | .hbm, ⟨23, _⟩ => ⟨S27x50000x1, .i1⟩
  | .hbm, ⟨24, _⟩ => ⟨S_, .i1⟩
  | .hbm, ⟨25, _⟩ => ⟨S27x50000, .i1⟩
  | .hbm, ⟨26, _⟩ => ⟨S27x50000x128, .f32⟩
  | .hbm, ⟨27, _⟩ => ⟨S27x50000x128, .i1⟩
  | .hbm, ⟨28, _⟩ => ⟨S_, .f32⟩
  | .hbm, ⟨29, _⟩ => ⟨S27x50000x128, .f32⟩
  | .hbm, ⟨30, _⟩ => ⟨S27x50000x128, .f32⟩
  | .hbm, ⟨31, _⟩ => ⟨S27x50000x128, .f32⟩
  | .hbm, ⟨32, _⟩ => ⟨S_, .f32⟩
  | .hbm, ⟨33, _⟩ => ⟨S50001x128, .f32⟩
  | .hbm, ⟨34, _⟩ => ⟨S_, .i32⟩
  | .hbm, ⟨35, _⟩ => ⟨S27x50000, .i32⟩
  | .hbm, ⟨36, _⟩ => ⟨S27x50000, .i1⟩
  | .hbm, ⟨37, _⟩ => ⟨S_, .i32⟩
  | .hbm, ⟨38, _⟩ => ⟨S27x50000, .i32⟩
  | .hbm, ⟨39, _⟩ => ⟨S27x50000, .i32⟩
  | .hbm, ⟨40, _⟩ => ⟨S27x50000, .i32⟩
  | .hbm, ⟨41, _⟩ => ⟨S27x50000x1, .i32⟩
  | .hbm, ⟨42, _⟩ => ⟨S50001x128, .f32⟩
  | .hbm, ⟨43, _⟩ => ⟨S50000x128, .f32⟩
  | .hbm, ⟨44, _⟩ => ⟨S1x128, .f32⟩
  | .hbm, ⟨45, _⟩ => ⟨S50000x128, .f32⟩
  | .hbm, ⟨46, _⟩ => ⟨S50000x128, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v2 : Ref sig .tc := ⟨.hbm, 30, rfl⟩
abbrev main_v3 : Ref sig .tc := ⟨.hbm, 31, rfl⟩
abbrev main_cst_0 : Ref sig .tc := ⟨.hbm, 32, rfl⟩
abbrev main_v4 : Ref sig .tc := ⟨.hbm, 33, rfl⟩
abbrev main_c : Ref sig .tc := ⟨.hbm, 34, rfl⟩
abbrev main_v5 : Ref sig .tc := ⟨.hbm, 35, rfl⟩
abbrev main_v6 : Ref sig .tc := ⟨.hbm, 36, rfl⟩
abbrev main_c_1 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩

abbrev nD : Nat := 1
abbrev τ : Topo := Topo.v7x

variable {F : FTy → Type} [FloatOps F]
-- ==== Proof.Words.lean ====
/-
  The index words of the gather kernel in closed form. Tile `i` — SparseCore `i 0`, subcore `i 1` — is number
  `tile i = i 1 + 16 * i 0`; it gathers the blocks `base i … base i + cnt i - 1` of 128 rows, one a trip of its loop.
  At trip `t` every offset and every branch condition the kernel computes from the loop's counters is one of a few
  plain expressions of `t`, `base i` and `cnt i`; the theorems here state them.
-/
module

public import proofs.«01_k».proof.Proof.Gen.KernelIdeal
public import Idealize.ShloMosaic.Lib.WordCmp

@[expose] public section

namespace Cert.Proof.Words

open Idealize.ShloMosaic
open Cert.KernelIdeal

/-- Tile `i`'s number among the 32. -/
def tile (i : grid0.Coords) : ℕ := (i 1).val + 16 * (i 0).val
/-- How many blocks tile `i` gathers. -/
def cnt (i : grid0.Coords) : ℕ := if tile i < 24 then 331 else 330
/-- The first block tile `i` gathers. -/
def base (i : grid0.Coords) : ℕ := if tile i < 24 then tile i * 331 else tile i * 330 + 24

theorem tile_lt (i : grid0.Coords) : tile i < 32 := by
  have h0 : (i 0).val < 2 := (i 0).isLt
  have h1 : (i 1).val < 16 := (i 1).isLt
  unfold tile; omega
theorem cnt_cases (i : grid0.Coords) : cnt i = 331 ∨ cnt i = 330 := by unfold cnt; split <;> simp
theorem cnt_pos (i : grid0.Coords) : 0 < cnt i := by rcases cnt_cases i with h | h <;> omega
theorem base_cnt (i : grid0.Coords) : base i + cnt i ≤ 10584 := by
  have := tile_lt i
  unfold base cnt; split <;> omega

/-- The words the kernel computes of its tile: the tile number, the number of blocks, the first block. -/
def w3 (i : grid0.Coords) : BitVec 32 :=
  Scalar.addi (Scalar.addi 0#32 (Scalar.muli (BitVec.ofNat 32 (i 1).val) 1#32)) (Scalar.muli (BitVec.ofNat 32 (i 0).val) 16#32)
def w5 (i : grid0.Coords) : BitVec 32 := Scalar.select (Scalar.cmpi .slt (w3 i) 24#32) 331#32 330#32
def w10 (i : grid0.Coords) : BitVec 32 :=
  Scalar.select (Scalar.cmpi .slt (w3 i) 24#32) (Scalar.muli (w3 i) (w5 i)) (Scalar.addi (Scalar.muli (w3 i) 330#32) 24#32)

theorem w5_eq (i : grid0.Coords) : w5 i = BitVec.ofNat 32 (cnt i) := by
  have key : ∀ (a : Fin 2) (b : Fin 16),
      Scalar.select (Scalar.cmpi .slt (Scalar.addi (Scalar.addi 0#32 (Scalar.muli (BitVec.ofNat 32 b.val) 1#32)) (Scalar.muli (BitVec.ofNat 32 a.val) 16#32)) 24#32) 331#32 330#32
        = BitVec.ofNat 32 (if b.val + 16 * a.val < 24 then 331 else 330) := by decide
  exact key (i 0) (i 1)
theorem w10_eq (i : grid0.Coords) : w10 i = BitVec.ofNat 32 (base i) := by
  have key : ∀ (a : Fin 2) (b : Fin 16),
      Scalar.select (Scalar.cmpi .slt (Scalar.addi (Scalar.addi 0#32 (Scalar.muli (BitVec.ofNat 32 b.val) 1#32)) (Scalar.muli (BitVec.ofNat 32 a.val) 16#32)) 24#32)
        (Scalar.muli (Scalar.addi (Scalar.addi 0#32 (Scalar.muli (BitVec.ofNat 32 b.val) 1#32)) (Scalar.muli (BitVec.ofNat 32 a.val) 16#32))
          (Scalar.select (Scalar.cmpi .slt (Scalar.addi (Scalar.addi 0#32 (Scalar.muli (BitVec.ofNat 32 b.val) 1#32)) (Scalar.muli (BitVec.ofNat 32 a.val) 16#32)) 24#32) 331#32 330#32))
        (Scalar.addi (Scalar.muli (Scalar.addi (Scalar.addi 0#32 (Scalar.muli (BitVec.ofNat 32 b.val) 1#32)) (Scalar.muli (BitVec.ofNat 32 a.val) 16#32)) 330#32) 24#32)
        = BitVec.ofNat 32 (if b.val + 16 * a.val < 24 then (b.val + 16 * a.val) * 331 else (b.val + 16 * a.val) * 330 + 24) := by decide
  exact key (i 0) (i 1)

/-- The first loop makes `cnt i` trips, the second none. -/
theorem trips1 (i : grid0.Coords) : (k0_t1_loop i).trips = cnt i := by
  have key : ∀ n : ℕ, n = 331 ∨ n = 330 → Scf.trips 0#32 (Scalar.addi 0#32 (Scalar.muli (Scalar.divsi (Scalar.subi (Scalar.muli 1#32 (BitVec.ofNat 32 n)) 0#32) 1#32) 1#32)) 1#32 = n := by
    rintro n (rfl | rfl) <;> decide
  have e := key (cnt i) (cnt_cases i)
  rw [← w5_eq] at e
  exact e
theorem trips2 (i : grid0.Coords) : (k0_t2_loop i).trips = 0 := by
  have key : ∀ n : ℕ, n = 331 ∨ n = 330 →
      (let v11 := Scalar.muli 1#32 (BitVec.ofNat 32 n)
       let v46 := Scalar.addi 0#32 (Scalar.muli (Scalar.divsi (Scalar.subi v11 0#32) 1#32) 1#32)
       Scf.trips v46 (Scalar.addi 0#32 (Scalar.subi v11 0#32)) 1#32) = 0 := by
    rintro n (rfl | rfl) <;> decide
  have e := key (cnt i) (cnt_cases i)
  rw [← w5_eq] at e
  exact e

theorem cond1_eq (i : grid0.Coords) : k0_cond1 i = 1#1 := by
  have key : ∀ n : ℕ, n = 331 ∨ n = 330 →
      Scalar.cmpi .ne (Scalar.extui (Scalar.cmpi .sgt (Scalar.muli 1#32 (BitVec.ofNat 32 n)) 0#32) : BitVec 32) 0#32 = 1#1 := by
    rintro n (rfl | rfl) <;> decide
  have e := key (cnt i) (cnt_cases i)
  rw [← w5_eq] at e
  exact e

theorem cond2_eq (i : grid0.Coords) : k0_cond2 i = 1#1 := by
  have key : ∀ n : ℕ, n = 331 ∨ n = 330 →
      Scalar.cmpi .ne (Scalar.extui (Scalar.andi (Scalar.andi 1#1 (Scalar.cmpi .sgt (Scalar.muli 1#32 (BitVec.ofNat 32 n)) 0#32)) 1#1) : BitVec 32) 0#32 = 1#1 := by
    rintro n (rfl | rfl) <;> decide
  have e := key (cnt i) (cnt_cases i)
  rw [← w5_eq] at e
  exact e
theorem cond18_eq (i : grid0.Coords) : k0_cond18 i = 1#1 := by
  have key : ∀ n : ℕ, n = 331 ∨ n = 330 →
      Scalar.cmpi .ne (Scalar.extui (Scalar.cmpi .eq (Scalar.subi (Scalar.muli 1#32 (BitVec.ofNat 32 n)) 1#32) (Scalar.subi (Scalar.muli 1#32 (BitVec.ofNat 32 n)) 1#32)) : BitVec 32) 0#32 = 1#1 := by
    rintro n (rfl | rfl) <;> decide
  have e := key (cnt i) (cnt_cases i)
  rw [← w5_eq] at e
  exact e

/-- The counter after `a`, going round at `n`; and the one before it. -/
abbrev nxt (n a : BitVec 32) : BitVec 32 :=
  Scalar.select (Scalar.cmpi .eq (Scalar.select 1#1 (Scalar.addi a 1#32) a) n) 0#32 (Scalar.select 1#1 (Scalar.addi a 1#32) a)
abbrev prv (n a : BitVec 32) : BitVec 32 :=
  Scalar.select (Scalar.cmpi .eq (Scalar.select 1#1 (Scalar.subi a 1#32) a) 4294967295#32) (Scalar.subi n 1#32) (Scalar.select 1#1 (Scalar.subi a 1#32) a)

/-- What holds of every number of blocks a tile can have and every trip below it holds at tile `i`'s. -/
theorem trip_cases {q : ℕ → ℕ → Prop} (h1 : ∀ t : Fin 331, q 331 t.val) (h2 : ∀ t : Fin 330, q 330 t.val)
    (i : grid0.Coords) {t : ℕ} (ht : t < cnt i) : q (cnt i) t := by
  rcases cnt_cases i with h | h <;> rw [h] at ht ⊢
  · exact h1 ⟨t, ht⟩
  · exact h2 ⟨t, ht⟩

theorem nxt_eq (i : grid0.Coords) {t : ℕ} (ht : t < cnt i) :
    nxt (w5 i) (BitVec.ofNat 32 t) = BitVec.ofNat 32 (if t + 1 = cnt i then 0 else t + 1) := by
  rw [w5_eq]
  exact trip_cases (q := fun n t => nxt (BitVec.ofNat 32 n) (BitVec.ofNat 32 t) = BitVec.ofNat 32 (if t + 1 = n then 0 else t + 1))
    (by decide +kernel) (by decide +kernel) i ht
theorem prv_eq (i : grid0.Coords) {t : ℕ} (ht : t < cnt i) :
    prv (w5 i) (BitVec.ofNat 32 t) = BitVec.ofNat 32 (if t = 0 then cnt i - 1 else t - 1) := by
  rw [w5_eq]
  exact trip_cases (q := fun n t => prv (BitVec.ofNat 32 n) (BitVec.ofNat 32 t) = BitVec.ofNat 32 (if t = 0 then n - 1 else t - 1))
    (by decide +kernel) (by decide +kernel) i ht

/-- Adding the same word to both sides does not change whether they differ. -/
theorem ne_add (a b c : BitVec 32) : Scalar.cmpi .ne (Scalar.addi a b) (Scalar.addi c b) = Scalar.cmpi .ne a c := by
  show BitVec.ofBool (a + b != c + b) = BitVec.ofBool (a != c)
  congr 1
  rw [Bool.eq_iff_iff]
  simp

/-- Whether trip `t` starts the copy of the next block's indices: at every trip but the last. -/
theorem cond3_eq (i : grid0.Coords) (t : Fin (k0_t1_loop i).trips) (ht : t.val < cnt i) :
    k0_cond3 i t (BitVec.ofNat 32 t.val) = 1#1 ↔ t.val + 1 < cnt i := by
  have key := trip_cases (q := fun n t => Scalar.cmpi .ne (Scalar.extui (Scalar.andi (Scalar.andi
      (Scalar.cmpi .ne (BitVec.ofNat 32 t) (nxt (BitVec.ofNat 32 n) (BitVec.ofNat 32 t)))
      (Scalar.xori (Scalar.cmpi .sge (Scf.iv 0#32 1#32 t) (Scalar.addi (Scalar.subi (Scalar.muli 1#32 (BitVec.ofNat 32 n)) 2#32) 1#32)) 1#1)) 1#1) : BitVec 32) 0#32 = 1#1
      ↔ t + 1 < n) (by decide +kernel) (by decide +kernel) i ht
  rw [← w5_eq, ← ne_add (BitVec.ofNat 32 t.val) (w10 i) (nxt (w5 i) (BitVec.ofNat 32 t.val))] at key
  exact key

/-- Every trip waits for its own block's indices. -/
theorem cond4_eq (i : grid0.Coords) (t : Fin (k0_t1_loop i).trips) (ht : t.val < cnt i) :
    k0_cond4 i t (BitVec.ofNat 32 t.val) = 1#1 := by
  have key := trip_cases (q := fun n t => Scalar.cmpi .ne (Scalar.extui (Scalar.andi (Scalar.ori
      (Scalar.cmpi .ne (BitVec.ofNat 32 t) (prv (BitVec.ofNat 32 n) (BitVec.ofNat 32 t)))
      (Scalar.cmpi .eq (Scf.iv 0#32 1#32 t) 0#32)) (Scalar.cmpi .sge (Scf.iv 0#32 1#32 t) 0#32)) : BitVec 32) 0#32 = 1#1)
      (by decide +kernel) (by decide +kernel) i ht
  rw [← w5_eq, ← ne_add (BitVec.ofNat 32 t.val) (w10 i) (prv (w5 i) (BitVec.ofNat 32 t.val))] at key
  exact key

/-- Every trip starts the copy of its gathered rows out. -/
theorem cond7_eq (i : grid0.Coords) (t : Fin (k0_t1_loop i).trips) (ht : t.val < cnt i) :
    k0_cond7 i t (BitVec.ofNat 32 t.val) = 1#1 := by
  have key := trip_cases (q := fun n t => Scalar.cmpi .ne (Scalar.extui (Scalar.ori
      (Scalar.cmpi .ne (BitVec.ofNat 32 t) (nxt (BitVec.ofNat 32 n) (BitVec.ofNat 32 t)))
      (Scalar.cmpi .eq (Scf.iv 0#32 1#32 t) (Scalar.subi (Scalar.muli 1#32 (BitVec.ofNat 32 n)) 1#32))) : BitVec 32) 0#32 = 1#1)
      (by decide +kernel) (by decide +kernel) i ht
  rw [← w5_eq, ← ne_add (BitVec.ofNat 32 t.val) (w10 i) (nxt (w5 i) (BitVec.ofNat 32 t.val))] at key
  exact key

/-- Every trip but the first waits for the copy out of the trip before. -/
theorem cond9_eq (i : grid0.Coords) (t : Fin (k0_t1_loop i).trips) (ht : t.val < cnt i) :
    k0_cond9 i t (BitVec.ofNat 32 t.val) = 1#1 ↔ 0 < t.val := by
  have key := trip_cases (q := fun n t => Scalar.cmpi .ne (Scalar.extui (Scalar.andi
      (Scalar.cmpi .ne (BitVec.ofNat 32 t) (prv (BitVec.ofNat 32 n) (BitVec.ofNat 32 t)))
      (Scalar.xori (Scalar.cmpi .eq (Scf.iv 0#32 1#32 t) 0#32) 1#1)) : BitVec 32) 0#32 = 1#1 ↔ 0 < t)
      (by decide +kernel) (by decide +kernel) i ht
  rw [← w5_eq, ← ne_add (BitVec.ofNat 32 t.val) (w10 i) (prv (w5 i) (BitVec.ofNat 32 t.val))] at key
  exact key

/-- The slot of counter `t`: its parity. -/
theorem remui_eq {t : ℕ} (ht : t < 400) : (Scalar.remui (BitVec.ofNat 32 t) 2#32).toNat = t % 2 :=
  (by decide +kernel : ∀ t : Fin 400, (Scalar.remui (BitVec.ofNat 32 t.val) 2#32).toNat = t.val % 2) ⟨t, ht⟩

/-- The first row of block `a` of tile `i`. -/
theorem row_eq (i : grid0.Coords) {a : ℕ} (ha : a < cnt i) :
    (Scalar.muli 128#32 (Scalar.addi (BitVec.ofNat 32 a) (w10 i))).toNat = 128 * (base i + a) := by
  have hb := base_cnt i
  rw [w10_eq]
  show ((128#32 : BitVec 32) * (BitVec.ofNat 32 a + BitVec.ofNat 32 (base i))).toNat = _
  rw [BitVec.toNat_mul, BitVec.toNat_add]
  simp only [BitVec.toNat_ofNat]
  omega

theorem off4_eq {t : ℕ} (ht : t < 400) : k0_off4 (BitVec.ofNat 32 t) = ![t % 2, 0, 0] := by
  show ![(Scalar.remui (BitVec.ofNat 32 t) 2#32).toNat, 0, 0] = _; rw [remui_eq ht]
theorem off6_eq {t : ℕ} (ht : t < 400) : k0_off6 (BitVec.ofNat 32 t) = ![t % 2] := by
  show ![(Scalar.remui (BitVec.ofNat 32 t) 2#32).toNat] = _; rw [remui_eq ht]
theorem off7_eq {t : ℕ} (ht : t < 400) : k0_off7 (BitVec.ofNat 32 t) = ![t % 2, 0, 0] := off4_eq ht
theorem off9_eq {t : ℕ} (ht : t < 400) : k0_off9 (BitVec.ofNat 32 t) = ![t % 2] := off6_eq ht
theorem off10_eq {t : ℕ} (ht : t < 400) : k0_off10 (BitVec.ofNat 32 t) = ![t % 2, 0, 0] := off4_eq ht
theorem off11_eq {t : ℕ} (ht : t < 400) : k0_off11 (BitVec.ofNat 32 t) = ![t % 2, 0, 0] := off4_eq ht
theorem off12_eq {t : ℕ} (ht : t < 400) : k0_off12 (BitVec.ofNat 32 t) = ![t % 2, 0, 0] := off4_eq ht
theorem off14_eq {t : ℕ} (ht : t < 400) : k0_off14 (BitVec.ofNat 32 t) = ![t % 2] := off6_eq ht
theorem off15_eq {t : ℕ} (ht : t < 400) : k0_off15 (BitVec.ofNat 32 t) = ![t % 2, 0, 0] := off4_eq ht
theorem off17_eq {t : ℕ} (ht : t < 400) : k0_off17 (BitVec.ofNat 32 t) = ![t % 2] := off6_eq ht
theorem off32_eq {t : ℕ} (ht : t < 400) : k0_off32 (BitVec.ofNat 32 t) = ![t % 2, 0, 0] := off4_eq ht
theorem off34_eq {t : ℕ} (ht : t < 400) : k0_off34 (BitVec.ofNat 32 t) = ![t % 2] := off6_eq ht
theorem off35_eq {t : ℕ} (ht : t < 400) : k0_off35 (BitVec.ofNat 32 t) = ![t % 2, 0, 0] := off4_eq ht
theorem off1_eq : k0_off1 = ![0, 0, 0] := off4_eq (t := 0) (by omega)
theorem off3_eq : k0_off3 = ![0] := off6_eq (t := 0) (by omega)
theorem off2_eq (i : grid0.Coords) : k0_off2 i = ![0, 128 * (base i + 0)] := by
  have e := row_eq i (cnt_pos i)
  show ![0, (Scalar.muli 128#32 (Scalar.addi (BitVec.ofNat 32 0) (w10 i))).toNat] = _
  rw [e]
theorem off5_eq (i : grid0.Coords) {t : ℕ} (ht : t + 1 < cnt i) :
    k0_off5 i (BitVec.ofNat 32 t) = ![0, 128 * (base i + (t + 1))] := by
  show ![0, (Scalar.muli 128#32 (Scalar.addi (nxt (w5 i) (BitVec.ofNat 32 t)) (w10 i))).toNat] = _
  rw [nxt_eq i (by omega), if_neg (by omega), row_eq i ht]
theorem off8_eq (i : grid0.Coords) {t : ℕ} (ht : t < cnt i) :
    k0_off8 i (BitVec.ofNat 32 t) = ![0, 128 * (base i + t)] := by
  show ![0, (Scalar.muli 128#32 (Scalar.addi (BitVec.ofNat 32 t) (w10 i))).toNat] = _
  rw [row_eq i ht]
theorem off13_eq (i : grid0.Coords) {t : ℕ} (ht : t < cnt i) :
    k0_off13 i (BitVec.ofNat 32 t) = ![128 * (base i + t), 0] := by
  show ![(Scalar.muli 128#32 (Scalar.addi (BitVec.ofNat 32 t) (w10 i))).toNat, 0] = _
  rw [row_eq i ht]
theorem off16_eq (i : grid0.Coords) {t : ℕ} (h0 : 0 < t) (ht : t < cnt i) :
    k0_off16 i (BitVec.ofNat 32 t) = ![128 * (base i + (t - 1)), 0] := by
  show ![(Scalar.muli 128#32 (Scalar.addi (prv (w5 i) (BitVec.ofNat 32 t)) (w10 i))).toNat, 0] = _
  rw [prv_eq i ht, if_neg (by omega), row_eq i (by omega)]
theorem off33_eq (i : grid0.Coords) :
    k0_off33 i 0#32 = ![128 * (base i + (cnt i - 1)), 0] := by
  show ![(Scalar.muli 128#32 (Scalar.addi (prv (w5 i) (BitVec.ofNat 32 0)) (w10 i))).toNat, 0] = _
  have := cnt_pos i
  rw [prv_eq i this, if_pos rfl, row_eq i (by omega)]

/-- The counters at trip `t`: the block whose indices are copied next, the block gathered, the slot filled, the block
    whose copy out is waited for, the block's place. -/
def c6 (i : grid0.Coords) (t : ℕ) : BitVec 32 := BitVec.ofNat 32 (min (t + 1) (cnt i))
def c7 (t : ℕ) : BitVec 32 := BitVec.ofNat 32 t
def c9 (t : ℕ) : BitVec 32 := BitVec.ofNat 32 (t - 1)
def c10 (i : grid0.Coords) (t : ℕ) : BitVec 32 := BitVec.ofNat 32 (if t = cnt i then 0 else t)

theorem c10_of_lt (i : grid0.Coords) {t : ℕ} (ht : t < cnt i) : c10 i t = BitVec.ofNat 32 t := by
  unfold c10; rw [if_neg (by omega)]
theorem c6_of_lt (i : grid0.Coords) {t : ℕ} (ht : t < cnt i) : c6 i t = BitVec.ofNat 32 (t + 1) := by
  unfold c6; rw [Nat.min_eq_left (by omega)]

theorem inb3i {s : ℕ} (hs : s < 2) : ∀ a, (![s, 0, 0] : Fin 3 → ℕ) a + S1x1x128.size a ≤ S2x1x128.size a := by
  intro a; fin_cases a
  · show s + 1 ≤ 2; omega
  · show 0 + 1 ≤ 1; omega
  · show 0 + 128 ≤ 128; omega
theorem inb3r {s : ℕ} (hs : s < 2) : ∀ a, (![s, 0, 0] : Fin 3 → ℕ) a + S1x128x128.size a ≤ S2x128x128.size a := by
  intro a; fin_cases a
  · show s + 1 ≤ 2; omega
  · show 0 + 128 ≤ 128; omega
  · show 0 + 128 ≤ 128; omega
theorem inb1 {s : ℕ} (hs : s < 2) : ∀ a, (![s] : Fin 1 → ℕ) a + S1.size a ≤ S2.size a := by
  intro a; fin_cases a; show s + 1 ≤ 2; omega
theorem inbI {b : ℕ} (hb : b < 10584) : ∀ a, (![0, 128 * b] : Fin 2 → ℕ) a + S1x128.size a ≤ S1x1354752.size a := by
  intro a; fin_cases a
  · show 0 + 1 ≤ 1; omega
  · show 128 * b + 128 ≤ 1354752; omega
theorem inbG {b : ℕ} (hb : b < 10584) : ∀ a, (![128 * b, 0] : Fin 2 → ℕ) a + S128x128.size a ≤ S1354752x128.size a := by
  intro a; fin_cases a
  · show 128 * b + 128 ≤ 1354752; omega
  · show 0 + 128 ≤ 128; omega

theorem cnt_lt (i : grid0.Coords) : cnt i < 332 := by rcases cnt_cases i with h | h <;> omega

/-- The side conditions of trip `t` hold. -/
theorem chk3_at (i : grid0.Coords) {t : ℕ} (ht : t < cnt i) : k0_chk3 i (c7 t) := fun _ => by
  have := cnt_lt i
  unfold c7; rw [off11_eq (by omega)]; exact inb3i (Nat.mod_lt _ (by omega))
theorem chk2_at (i : grid0.Coords) {t : ℕ} (ht : t < cnt i) : k0_chk2 i (c7 t) := fun _ => by
  have := cnt_lt i
  unfold c7; rw [off10_eq (by omega)]; exact inb3r (Nat.mod_lt _ (by omega))
theorem chk1_at (i : grid0.Coords) (t : Fin (k0_t1_loop i).trips) (ht : t.val < cnt i) :
    k0_chk1 i t (c6 i t) (c7 t) (c7 t) (c9 t) (c10 i t) := by
  have hl := cnt_lt i
  have hb := base_cnt i
  have m2 : ∀ x : ℕ, x % 2 < 2 := fun x => Nat.mod_lt _ (by omega)
  rw [c10_of_lt i ht, c6_of_lt i ht]
  unfold c7 c9
  refine ⟨fun _ _ => ?_, fun _ h => ?_, fun _ _ => ?_, fun _ _ => ?_, fun _ _ => ?_, fun _ _ => ?_, fun _ _ => ?_, fun _ _ => ?_, fun _ _ => ?_,
    fun _ _ => ?_, fun _ h => ?_, fun _ _ => ?_⟩
  · rw [off4_eq (by omega)]; exact inb3i (m2 _)
  · have h' := (cond3_eq i t ht).mp h
    rw [off5_eq i h']; exact inbI (by omega)
  · rw [off6_eq (by omega)]; exact inb1 (m2 _)
  · rw [off7_eq (by omega)]; exact inb3i (m2 _)
  · rw [off8_eq i ht]; exact inbI (by omega)
  · rw [off9_eq (by omega)]; exact inb1 (m2 _)
  · rw [off12_eq (by omega)]; exact inb3r (m2 _)
  · rw [off13_eq i ht]; exact inbG (by omega)
  · rw [off14_eq (by omega)]; exact inb1 (m2 _)
  · rw [off15_eq (by omega)]; exact inb3r (m2 _)
  · have h' := (cond9_eq i t ht).mp h
    rw [off16_eq i h' ht]; exact inbG (by omega)
  · rw [off17_eq (by omega)]; exact inb1 (m2 _)
theorem chk8_at (i : grid0.Coords) : k0_chk8 i (c10 i (cnt i)) := fun _ _ => by
  have hb := base_cnt i
  have hp := cnt_pos i
  unfold c10; rw [if_pos rfl, off33_eq]; exact inbG (by omega)
theorem chk7_at (i : grid0.Coords) : k0_chk7 i (c9 (cnt i)) := by
  have hl := cnt_lt i
  have m2 : ∀ x : ℕ, x % 2 < 2 := fun x => Nat.mod_lt _ (by omega)
  unfold c9
  refine ⟨fun _ _ => ?_, fun _ _ => ?_, fun _ _ => ?_⟩
  · rw [off32_eq (by omega)]; exact inb3r (m2 _)
  · rw [off34_eq (by omega)]; exact inb1 (m2 _)
  · rw [off35_eq (by omega)]; exact inb3r (m2 _)

/-- What the trip makes of its counters is the next trip's. -/
theorem next6 (i : grid0.Coords) {t : ℕ} (ht : t < cnt i) :
    Scalar.select (Scalar.andi (Scalar.andi (Scalar.cmpi .ne (Scalar.addi (c10 i t) (w10 i)) (Scalar.addi (nxt (w5 i) (c10 i t)) (w10 i)))
      (Scalar.xori (Scalar.cmpi .sge (Scf.iv 0#32 1#32 t) (Scalar.addi (Scalar.subi (Scalar.muli 1#32 (w5 i)) 2#32) 1#32)) 1#1)) 1#1)
      (Scalar.addi (c6 i t) 1#32) (c6 i t) = c6 i (t + 1) := by
  rw [ne_add, c10_of_lt i ht, w5_eq]
  unfold c6
  exact trip_cases (q := fun n t => Scalar.select (Scalar.andi (Scalar.andi (Scalar.cmpi .ne (BitVec.ofNat 32 t) (nxt (BitVec.ofNat 32 n) (BitVec.ofNat 32 t)))
      (Scalar.xori (Scalar.cmpi .sge (Scf.iv 0#32 1#32 t) (Scalar.addi (Scalar.subi (Scalar.muli 1#32 (BitVec.ofNat 32 n)) 2#32) 1#32)) 1#1)) 1#1)
      (Scalar.addi (BitVec.ofNat 32 (min (t + 1) n)) 1#32) (BitVec.ofNat 32 (min (t + 1) n)) = BitVec.ofNat 32 (min (t + 1 + 1) n))
      (by decide +kernel) (by decide +kernel) i ht
theorem next7 (i : grid0.Coords) {t : ℕ} (ht : t < cnt i) :
    Scalar.select (Scalar.ori (Scalar.cmpi .ne (Scalar.addi (c10 i t) (w10 i)) (Scalar.addi (nxt (w5 i) (c10 i t)) (w10 i)))
      (Scalar.cmpi .eq (Scf.iv 0#32 1#32 t) (Scalar.subi (Scalar.muli 1#32 (w5 i)) 1#32)))
      (Scalar.addi (c7 t) 1#32) (c7 t) = c7 (t + 1) := by
  rw [ne_add, c10_of_lt i ht, w5_eq]
  unfold c7
  exact trip_cases (q := fun n t => Scalar.select (Scalar.ori (Scalar.cmpi .ne (BitVec.ofNat 32 t) (nxt (BitVec.ofNat 32 n) (BitVec.ofNat 32 t)))
      (Scalar.cmpi .eq (Scf.iv 0#32 1#32 t) (Scalar.subi (Scalar.muli 1#32 (BitVec.ofNat 32 n)) 1#32)))
      (Scalar.addi (BitVec.ofNat 32 t) 1#32) (BitVec.ofNat 32 t) = BitVec.ofNat 32 (t + 1))
      (by decide +kernel) (by decide +kernel) i ht
theorem next8 (i : grid0.Coords) {t : ℕ} (ht : t < cnt i) :
    Scalar.select (Scalar.andi (Scalar.ori (Scalar.cmpi .ne (Scalar.addi (c10 i t) (w10 i)) (Scalar.addi (nxt (w5 i) (c10 i t)) (w10 i)))
      (Scalar.cmpi .eq (Scf.iv 0#32 1#32 t) (Scalar.subi (Scalar.muli 1#32 (w5 i)) 1#32))) 1#1)
      (Scalar.addi (c7 t) 1#32) (c7 t) = c7 (t + 1) := by
  have e : ∀ x : BitVec 1, Scalar.andi x 1#1 = x := by decide
  rw [e]; exact next7 i ht
theorem next9 (i : grid0.Coords) {t : ℕ} (ht : t < cnt i) :
    Scalar.select (Scalar.andi (Scalar.andi (Scalar.cmpi .ne (Scalar.addi (c10 i t) (w10 i)) (Scalar.addi (prv (w5 i) (c10 i t)) (w10 i)))
      (Scalar.xori (Scalar.cmpi .eq (Scf.iv 0#32 1#32 t) 0#32) 1#1)) 1#1)
      (Scalar.addi (c9 t) 1#32) (c9 t) = c9 (t + 1) := by
  rw [ne_add, c10_of_lt i ht, w5_eq]
  unfold c9
  exact trip_cases (q := fun n t => Scalar.select (Scalar.andi (Scalar.andi (Scalar.cmpi .ne (BitVec.ofNat 32 t) (prv (BitVec.ofNat 32 n) (BitVec.ofNat 32 t)))
      (Scalar.xori (Scalar.cmpi .eq (Scf.iv 0#32 1#32 t) 0#32) 1#1)) 1#1)
      (Scalar.addi (BitVec.ofNat 32 (t - 1)) 1#32) (BitVec.ofNat 32 (t - 1)) = BitVec.ofNat 32 (t + 1 - 1))
      (by decide +kernel) (by decide +kernel) i ht
theorem next10 (i : grid0.Coords) {t : ℕ} (ht : t < cnt i) : nxt (w5 i) (c10 i t) = c10 i (t + 1) := by
  rw [c10_of_lt i ht, nxt_eq i ht]; rfl

end Cert.Proof.Words
-- ==== Proof.Setup.lean ====
/-
  The SparseCore gather's buffers as a tile addresses them, the sets of elements its slices name, and what its copies
  leave in them: the block of the index list in an index slot, the gathered rows in a row slot, the rows in the block
  of the result.
-/
module

public import proofs.«01_k».proof.Defs
public import proofs.«01_k».proof.Proof.Words
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.ValueLayout
public import Idealize.ShloMosaic.Lib.Tactic
public import proofs.«01_k».proof.Proof.Gen.KernelIdeal.Skeleton

@[expose] public section

noncomputable section

namespace Cert.Proof.Tile

open Cert.KernelIdeal Cert.KernelIdeal.Gen
open Cert.Proof.Words

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem nSub_zero : (K (F := F)).nSub 0 = 16 := rfl
theorem nCore_zero : (K (F := F)).nCore 0 = 2 := rfl

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := UR sig nD τ
abbrev UU : Type := UH × UP × Counters

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) := (Emb.inl : Emb UP (UP × Counters)).trans embR
instance EP_lands : (EP : Emb UP 𝕄).LandsIn (upEmb : UEmb _ 𝕄) := by unfold EP; infer_instance

/-! ## The buffers -/

/-- The padded rows, the index list and the gathered rows, in HBM. -/
abbrev xLoc (d : Dev nD) : Loc nD τ sig := (SparseCore.T d).loc main_v23
abbrev iLoc (d : Dev nD) : Loc nD τ sig := (SparseCore.T d).loc main_v21
abbrev gLoc (d : Dev nD) : Loc nD τ sig := (SparseCore.T d).loc main_v24

abbrev xV : Memref sig .scVector .hbm S50001x128 .f32 := Memref.whole main_v23_scv
abbrev iV : Memref sig .scVector .hbm S1x1354752 .i32 := Memref.whole main_v21_scv
abbrev gV : Memref sig .scVector .hbm S1354752x128 .f32 := Memref.whole main_v24_scv
/-- The two slots for a block of indices and the two for a block of rows, in the tile's memory. -/
abbrev sV : Memref sig .scVector .vmem S2x1x128 .i32 := Memref.whole cc0_scoped0
abbrev rV : Memref sig .scVector .vmem S2x128x128 .f32 := Memref.whole cc0_scoped2

abbrev sSlot (s : ℕ) (hs : s < 2) : Memref sig .scVector .vmem S1x128 .i32 :=
  (sV.slice (Rect.unit (s := S2x1x128) ![s, 0, 0] S1x1x128.size (inb3i hs)) (fun _ => rfl)).squeeze S1x128 squeezes_S1x1x128_S1x128
abbrev rSlot (s : ℕ) (hs : s < 2) : Memref sig .scVector .vmem S128x128 .f32 :=
  (rV.slice (Rect.unit (s := S2x128x128) ![s, 0, 0] S1x128x128.size (inb3r hs)) (fun _ => rfl)).squeeze S128x128 squeezes_S1x128x128_S128x128
abbrev sList (s : ℕ) (hs : s < 2) : Memref sig .scVector .vmem S128 .i32 :=
  ((sSlot s hs).slice (Rect.unit (s := S1x128) ![0, 0] S1x128.size inb_S1x128_S1x128_0_0) (fun _ => rfl)).squeeze S128 squeezes_S1x128_S128
abbrev iBlk (b : ℕ) (hb : b < 10584) : Memref sig .scVector .hbm S1x128 .i32 :=
  iV.slice (Rect.unit (s := S1x1354752) ![0, 128 * b] S1x128.size (inbI hb)) (fun _ => rfl)
abbrev gBlk (b : ℕ) (hb : b < 10584) : Memref sig .scVector .hbm S128x128 .f32 :=
  gV.slice (Rect.unit (s := S1354752x128) ![128 * b, 0] S128x128.size (inbG hb)) (fun _ => rfl)
abbrev xAll : Memref sig .scVector .hbm S50001x128 .f32 :=
  xV.slice (Rect.unit (s := S50001x128) ![0, 0] S50001x128.size inb_S50001x128_S50001x128_0_0) (fun _ => rfl)

/-- The semaphores of slot `s`: of the copies in, of the copies out. -/
abbrev inSem (s : ℕ) (hs : s < 2) : DmaSem sig := ((cc0_scoped1.slice (Rect.unit (s := S2) ![s] S1.size (inb1 hs))).squeeze S_ squeezes_S1_S_).sem
abbrev outSem (s : ℕ) (hs : s < 2) : DmaSem sig := ((cc0_scoped3.slice (Rect.unit (s := S2) ![s] S1.size (inb1 hs))).squeeze S_ squeezes_S1_S_).sem

/-! ## The elements a slice names -/

theorem emb_sSlot (s : ℕ) (hs : s < 2) (a : Fin 1) (c : Fin 128) :
    (sSlot s hs).view.emb (ix2 a c) = (ix3 ⟨s, hs⟩ a c : S2x1x128.Idx) := by
  show (Rect.unit (s := S2x1x128) ![s, 0, 0] S1x1x128.size (inb3i hs)).emb (Shape.reshapeEquiv _ (ix2 a c)) = _
  rw [reshapeEquiv_ix2_1ab]
  funext k
  apply Fin.ext
  match k with
  | ⟨0, _⟩ => show s + 1 * 0 = s; omega
  | ⟨1, _⟩ => show 0 + 1 * a.val = a.val; omega
  | ⟨2, _⟩ => show 0 + 1 * c.val = c.val; omega
theorem emb_rSlot (s : ℕ) (hs : s < 2) (a : Fin 128) (c : Fin 128) :
    (rSlot s hs).view.emb (ix2 a c) = (ix3 ⟨s, hs⟩ a c : S2x128x128.Idx) := by
  show (Rect.unit (s := S2x128x128) ![s, 0, 0] S1x128x128.size (inb3r hs)).emb (Shape.reshapeEquiv _ (ix2 a c)) = _
  rw [reshapeEquiv_ix2_1ab]
  funext k
  apply Fin.ext
  match k with
  | ⟨0, _⟩ => show s + 1 * 0 = s; omega
  | ⟨1, _⟩ => show 0 + 1 * a.val = a.val; omega
  | ⟨2, _⟩ => show 0 + 1 * c.val = c.val; omega
theorem emb_sList (s : ℕ) (hs : s < 2) (c : Fin 128) :
    (sList s hs).view.emb (ix1 c) = (ix3 ⟨s, hs⟩ 0 c : S2x1x128.Idx) := by
  show (sSlot s hs).view.emb ((Rect.unit (s := S1x128) ![0, 0] S1x128.size inb_S1x128_S1x128_0_0).emb (Shape.reshapeEquiv _ (ix1 c))) = _
  rw [← emb_sSlot s hs 0 c]
  congr 1
  rw [show Shape.reshapeEquiv _ (ix1 c) = (ix2 0 c : S1x128.Idx) from (Shape.reshapeEquiv_cons_one _ (ix1 c)).trans (by
    funext k; match k with | ⟨0, _⟩ => rfl | ⟨1, _⟩ => rfl)]
  funext k
  apply Fin.ext
  match k with
  | ⟨0, _⟩ => show 0 + 1 * 0 = 0; omega
  | ⟨1, _⟩ => show 0 + 1 * c.val = c.val; omega

/-- The place of lane `c` of index block `b` in the list, and of lane `(r, c)` of row block `b` in the result. -/
abbrev iAt (b : ℕ) (hb : b < 10584) (c : Fin 128) : S1x1354752.Idx := ix2 0 ⟨128 * b + c.val, by have := c.isLt; omega⟩
abbrev gAt (b : ℕ) (hb : b < 10584) (r c : Fin 128) : S1354752x128.Idx := ix2 ⟨128 * b + r.val, by have := r.isLt; omega⟩ c

theorem emb_iBlk (b : ℕ) (hb : b < 10584) (a : Fin 1) (c : Fin 128) : (iBlk b hb).view.emb (ix2 a c) = iAt b hb c := by
  show (Rect.unit (s := S1x1354752) ![0, 128 * b] S1x128.size (inbI hb)).emb (ix2 a c) = _
  funext k
  apply Fin.ext
  match k with
  | ⟨0, _⟩ => show 0 + 1 * a.val = 0; omega
  | ⟨1, _⟩ => show 128 * b + 1 * c.val = 128 * b + c.val; omega
theorem emb_gBlk (b : ℕ) (hb : b < 10584) (r c : Fin 128) : (gBlk b hb).view.emb (ix2 r c) = gAt b hb r c := by
  show (Rect.unit (s := S1354752x128) ![128 * b, 0] S128x128.size (inbG hb)).emb (ix2 r c) = _
  funext k
  apply Fin.ext
  match k with
  | ⟨0, _⟩ => show 128 * b + 1 * r.val = 128 * b + r.val; omega
  | ⟨1, _⟩ => show 0 + 1 * c.val = c.val; omega

/-- The list's elements in blocks `lo … hi - 1`, and the result's. -/
def iRange (lo hi : ℕ) : Finset S1x1354752.Idx := Finset.univ.filter fun p => 128 * lo ≤ (p 1).val ∧ (p 1).val < 128 * hi
def gRange (lo hi : ℕ) : Finset S1354752x128.Idx := Finset.univ.filter fun p => 128 * lo ≤ (p 0).val ∧ (p 0).val < 128 * hi

theorem mem_iRange {lo hi : ℕ} {p : S1x1354752.Idx} : p ∈ iRange lo hi ↔ 128 * lo ≤ (p 1).val ∧ (p 1).val < 128 * hi := by simp [iRange]
theorem mem_gRange {lo hi : ℕ} {p : S1354752x128.Idx} : p ∈ gRange lo hi ↔ 128 * lo ≤ (p 0).val ∧ (p 0).val < 128 * hi := by simp [gRange]

theorem set_iBlk (b : ℕ) (hb : b < 10584) : (iBlk b hb).view.set = iRange b (b + 1) := by
  ext p
  have h0 : (p 0).val < 1 := (p 0).isLt
  rw [mem_iRange, View.set_slice_whole]
  constructor
  · intro h
    have := (Rect.mem_set_unit.mp h) 1
    have e1 : 128 * b ≤ (p 1).val ∧ (p 1).val < 128 * b + 128 := this
    omega
  · intro h
    refine Rect.mem_set_unit.mpr fun a => ?_
    match a with
    | ⟨0, _⟩ => show 0 ≤ (p 0).val ∧ (p 0).val < 0 + 1; omega
    | ⟨1, _⟩ => show 128 * b ≤ (p 1).val ∧ (p 1).val < 128 * b + 128; omega
theorem set_gBlk (b : ℕ) (hb : b < 10584) : (gBlk b hb).view.set = gRange b (b + 1) := by
  ext p
  have h0 : (p 1).val < 128 := (p 1).isLt
  rw [mem_gRange, View.set_slice_whole]
  constructor
  · intro h
    have := (Rect.mem_set_unit.mp h) 0
    have e1 : 128 * b ≤ (p 0).val ∧ (p 0).val < 128 * b + 128 := this
    omega
  · intro h
    refine Rect.mem_set_unit.mpr fun a => ?_
    match a with
    | ⟨0, _⟩ => show 128 * b ≤ (p 0).val ∧ (p 0).val < 128 * b + 128; omega
    | ⟨1, _⟩ => show 0 ≤ (p 1).val ∧ (p 1).val < 0 + 128; omega

theorem iRange_union {a b c : ℕ} (h1 : a ≤ b) (h2 : b ≤ c) : iRange a c = iRange a b ∪ iRange b c := by
  ext p; rw [Finset.mem_union, mem_iRange, mem_iRange, mem_iRange]; omega
theorem gRange_union {a b c : ℕ} (h1 : a ≤ b) (h2 : b ≤ c) : gRange a c = gRange a b ∪ gRange b c := by
  ext p; rw [Finset.mem_union, mem_gRange, mem_gRange, mem_gRange]; omega
theorem iRange_disjoint {a b c d : ℕ} (h : b ≤ c) : Disjoint (iRange a b) (iRange c d) :=
  Finset.disjoint_left.mpr fun p h1 h2 => by rw [mem_iRange] at h1 h2; omega
theorem gRange_disjoint {a b c d : ℕ} (h : b ≤ c) : Disjoint (gRange a b) (gRange c d) :=
  Finset.disjoint_left.mpr fun p h1 h2 => by rw [mem_gRange] at h1 h2; omega
theorem iRange_empty {a b : ℕ} (h : b ≤ a) : iRange a b = ∅ := by
  ext p; rw [mem_iRange]; simp; omega
theorem gRange_empty {a b : ℕ} (h : b ≤ a) : gRange a b = ∅ := by
  ext p; rw [mem_gRange]; simp; omega

/-- A slot's elements: those of its first coordinate. -/
theorem mem_sSlot {s : ℕ} {hs : s < 2} {p : S2x1x128.Idx} : p ∈ (sSlot s hs).view.set ↔ (p 0).val = s := by
  have h1 : (p 1).val < 1 := (p 1).isLt
  have h2 : (p 2).val < 128 := (p 2).isLt
  rw [show (sSlot s hs).view.set = (sV.view.slice (Rect.unit (s := S2x1x128) ![s, 0, 0] S1x1x128.size (inb3i hs))).set from View.set_reshape _ _, View.set_slice_whole]
  constructor
  · intro h
    have e : s ≤ (p 0).val ∧ (p 0).val < s + 1 := (Rect.mem_set_unit.mp h) 0
    omega
  · intro h
    refine Rect.mem_set_unit.mpr fun a => ?_
    match a with
    | ⟨0, _⟩ => show s ≤ (p 0).val ∧ (p 0).val < s + 1; omega
    | ⟨1, _⟩ => show 0 ≤ (p 1).val ∧ (p 1).val < 0 + 1; omega
    | ⟨2, _⟩ => show 0 ≤ (p 2).val ∧ (p 2).val < 0 + 128; omega
theorem mem_rSlot {s : ℕ} {hs : s < 2} {p : S2x128x128.Idx} : p ∈ (rSlot s hs).view.set ↔ (p 0).val = s := by
  have h1 : (p 1).val < 128 := (p 1).isLt
  have h2 : (p 2).val < 128 := (p 2).isLt
  rw [show (rSlot s hs).view.set = (rV.view.slice (Rect.unit (s := S2x128x128) ![s, 0, 0] S1x128x128.size (inb3r hs))).set from View.set_reshape _ _, View.set_slice_whole]
  constructor
  · intro h
    have e : s ≤ (p 0).val ∧ (p 0).val < s + 1 := (Rect.mem_set_unit.mp h) 0
    omega
  · intro h
    refine Rect.mem_set_unit.mpr fun a => ?_
    match a with
    | ⟨0, _⟩ => show s ≤ (p 0).val ∧ (p 0).val < s + 1; omega
    | ⟨1, _⟩ => show 0 ≤ (p 1).val ∧ (p 1).val < 0 + 128; omega
    | ⟨2, _⟩ => show 0 ≤ (p 2).val ∧ (p 2).val < 0 + 128; omega
theorem set_sList (s : ℕ) (hs : s < 2) : (sList s hs).view.set = (sSlot s hs).view.set := by
  ext p
  constructor
  · intro h
    obtain ⟨j, -, rfl⟩ := Finset.mem_map.mp h
    obtain ⟨c, rfl⟩ : ∃ c : Fin 128, j = ix1 c := ⟨j 0, eq_ix1 j⟩
    rw [emb_sList, mem_sSlot]
  · intro h
    obtain ⟨j, -, rfl⟩ := Finset.mem_map.mp h
    obtain ⟨a, c, rfl⟩ : ∃ (a : Fin 1) (c : Fin 128), j = ix2 a c := ⟨j 0, j 1, eq_ix2 j⟩
    rw [emb_sSlot, show a = 0 from Subsingleton.elim _ _, ← emb_sList]
    exact View.emb_mem_set _ _

/-- The two slots are disjoint and all of the buffer. -/
abbrev sSet (s : ℕ) (hs : s < 2) : Finset S2x1x128.Idx := (sSlot s hs).view.set
abbrev rSet (s : ℕ) (hs : s < 2) : Finset S2x128x128.Idx := (rSlot s hs).view.set
theorem sSlot_disjoint : Disjoint (sSet 0 (by omega)) (sSet 1 (by omega)) :=
  Finset.disjoint_left.mpr fun p h1 h2 => by rw [mem_sSlot] at h1 h2; omega
theorem rSlot_disjoint : Disjoint (rSet 0 (by omega)) (rSet 1 (by omega)) :=
  Finset.disjoint_left.mpr fun p h1 h2 => by rw [mem_rSlot] at h1 h2; omega
theorem sSlot_union : sSet 0 (by omega) ∪ sSet 1 (by omega) = (Finset.univ : Finset S2x1x128.Idx) := by
  ext p
  have h : (p 0).val < 2 := (p 0).isLt
  refine ⟨fun _ => Finset.mem_univ _, fun _ => Finset.mem_union.mpr ?_⟩
  rw [mem_sSlot, mem_sSlot]; omega
theorem rSlot_union : rSet 0 (by omega) ∪ rSet 1 (by omega) = (Finset.univ : Finset S2x128x128.Idx) := by
  ext p
  have h : (p 0).val < 2 := (p 0).isLt
  refine ⟨fun _ => Finset.mem_univ _, fun _ => Finset.mem_union.mpr ?_⟩
  rw [mem_rSlot, mem_rSlot]; omega

/-! ## What the copies leave -/

/-- Index block `b` in a slot. -/
def iFill (fi : S1x1354752.Idx → BitVec 32) (b : ℕ) (hb : b < 10584) : S2x1x128.Idx → BitVec 32 := fun p => fi (iAt b hb (p 2))
/-- The row of the table that word `w` names. -/
def rowOf (w : BitVec 32) : Fin 50001 := ⟨w.toNat % 50001, Nat.mod_lt _ (by omega)⟩
/-- The gathered rows: row `n` is the table's row that entry `n` of the list names. -/
def gVal (fx : S50001x128.Idx → F .f32) (fi : S1x1354752.Idx → BitVec 32) : S1354752x128.Idx → F .f32 :=
  fun p => fx (ix2 (rowOf (fi (ix2 0 (p 0)))) (p 1))
/-- Row block `b` of them in a slot. -/
def rFill (fx : S50001x128.Idx → F .f32) (fi : S1x1354752.Idx → BitVec 32) (b : ℕ) (hb : b < 10584) : S2x128x128.Idx → F .f32 :=
  fun p => gVal fx fi (gAt b hb (p 1) (p 2))

theorem fetched (fi : S1x1354752.Idx → BitVec 32) (s : ℕ) (hs : s < 2) (b : ℕ) (hb : b < 10584) (fd : S2x1x128.Idx → BitVec 32) :
    ∀ p ∈ (sSlot s hs).view.set, (sSlot s hs).view.write (Elt F) fd ((iBlk b hb).view.read (Elt F) fi) Finset.univ p = iFill fi b hb p := by
  intro p hp
  obtain ⟨j, -, rfl⟩ := Finset.mem_map.mp hp
  rw [View.write_emb_of_mem _ _ (Finset.mem_univ _)]
  show fi ((iBlk b hb).view.emb j) = fi (iAt b hb ((sSlot s hs).view.emb j 2))
  obtain ⟨a, c, rfl⟩ : ∃ (a : Fin 1) (c : Fin 128), j = ix2 a c := ⟨j 0, j 1, eq_ix2 j⟩
  rw [emb_iBlk, emb_sSlot]
  rfl
theorem listed (fi : S1x1354752.Idx → BitVec 32) (s : ℕ) (hs : s < 2) (b : ℕ) (hb : b < 10584) (c : Fin 128) :
    (sList s hs).view.read (Elt F) (iFill fi b hb) (ix1 c) = fi (iAt b hb c) := by
  show iFill fi b hb ((sList s hs).view.emb (ix1 c)) = _
  rw [emb_sList]; rfl
theorem listed_lt (fi : S1x1354752.Idx → BitVec 32) (hfi : ∀ p, (fi p).toNat < 50001) (s : ℕ) (hs : s < 2) (b : ℕ) (hb : b < 10584) :
    ∀ x, ((sList s hs).view.read (Elt F) (iFill fi b hb) x).toNat < S50001x128.size gathers_S50001x128_S128x128.axis := by
  intro x
  obtain ⟨c, rfl⟩ : ∃ c : Fin 128, x = ix1 c := ⟨x 0, eq_ix1 x⟩
  rw [listed]; exact hfi _

theorem gathered (fx : S50001x128.Idx → F .f32) (fi : S1x1354752.Idx → BitVec 32) (hfi : ∀ p, (fi p).toNat < 50001)
    (s : ℕ) (hs : s < 2) (b : ℕ) (hb : b < 10584) (fd : S2x128x128.Idx → F .f32) (hn : S128.numel = S128x128.size gathers_S50001x128_S128x128.axis') :
    ∀ p ∈ (rSlot s hs).view.set, (rSlot s hs).view.write (Elt F) fd
        (SparseCore.gatherPayload gathers_S50001x128_S128x128 ((xAll).view.read (Elt F) fx)
          (SparseCore.rows ((sList s hs).view.read (Elt F) (iFill fi b hb)) hn (listed_lt (F := F) fi hfi s hs b hb))) Finset.univ p
      = rFill fx fi b hb p := by
  intro p hp
  obtain ⟨j, -, rfl⟩ := Finset.mem_map.mp hp
  rw [View.write_emb_of_mem _ _ (Finset.mem_univ _)]
  obtain ⟨r, c, rfl⟩ : ∃ (r c : Fin 128), j = ix2 r c := ⟨j 0, j 1, eq_ix2 j⟩
  unfold rFill
  rw [emb_rSlot]
  show fx ((xAll).view.emb (gathers_S50001x128_S128x128.idx _ (ix2 r c))) = gVal fx fi (gAt b hb r c)
  unfold gVal
  congr 1
  funext k
  apply Fin.ext
  match k with
  | ⟨0, _⟩ =>
    show 0 + 1 * (gathers_S50001x128_S128x128.idx _ (ix2 r c) gathers_S50001x128_S128x128.axis).val = _
    rw [Shape.Gathers.idx_axis]
    show 0 + 1 * ((sList s hs).view.read (Elt F) (iFill fi b hb) (S128.rowMajor.symm (Fin.cast hn.symm r))).toNat = _
    have e : S128.rowMajor.symm (Fin.cast hn.symm r) = ix1 r := by
      apply S128.rowMajor.injective
      rw [Equiv.apply_symm_apply]
      apply Fin.ext
      rw [Shape.rowMajor_val_one]
      rfl
    rw [e, listed]
    show 0 + 1 * (fi (iAt b hb r)).toNat = (fi (iAt b hb r)).toNat % 50001
    rw [Nat.mod_eq_of_lt (hfi _)]; omega
  | ⟨1, _⟩ =>
    show 0 + 1 * (gathers_S50001x128_S128x128.idx _ (ix2 r c) 1).val = _
    rw [Shape.Gathers.idx_of_ne _ _ _ _ (by decide)]
    show 0 + 1 * c.val = c.val
    omega

theorem stored (fx : S50001x128.Idx → F .f32) (fi : S1x1354752.Idx → BitVec 32) (s : ℕ) (hs : s < 2) (b : ℕ) (hb : b < 10584)
    (fg : S1354752x128.Idx → F .f32) :
    ∀ p ∈ (gBlk b hb).view.set, (gBlk b hb).view.write (Elt F) fg ((rSlot s hs).view.read (Elt F) (rFill fx fi b hb)) Finset.univ p = gVal fx fi p := by
  intro p hp
  obtain ⟨j, -, rfl⟩ := Finset.mem_map.mp hp
  rw [View.write_emb_of_mem _ _ (Finset.mem_univ _)]
  show rFill fx fi b hb ((rSlot s hs).view.emb j) = gVal fx fi ((gBlk b hb).view.emb j)
  obtain ⟨r, c, rfl⟩ : ∃ (r c : Fin 128), j = ix2 r c := ⟨j 0, j 1, eq_ix2 j⟩
  rw [emb_gBlk, emb_rSlot]
  rfl

end Cert.Proof.Tile

end
-- ==== Proof.Region.lean ====
/-
  The TensorCore's product: the pallas_call that multiplies each block of 448 rows of gathered features by the stacked
  weights and adds the bias. Its body at one grid point, what its windows hold when the body runs, and the call as a
  step of the host program, from the host's arrays to the same arrays with the product in the result.
-/
module

public import proofs.«01_k».proof.Proof.Setup
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit
public import Idealize.ShloMosaic.Lib.LaneScatter.Tiles

@[expose] public section

noncomputable section

namespace Cert.Proof.Product

open Cert.KernelIdeal Cert.KernelIdeal.Gen
open Cert.Proof.Tile (ΛP K D 𝒱₀ 𝒱 v₀ facts UH UP UU EH EP)

open Idealize.ShloMosaic Idealize.ShloMosaic.ValueIdx
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation cellOf)

variable {F : FTy → Type} [FloatOps F]

local notation "𝕄" => MT nD τ sig (HIx 1) (Elt F) ℕ UU ℕ

/-! ## The body at one grid point -/

/-- A TensorCore buffer's contents, and the buffer held whole at them. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- The offsets of a whole access are zero. -/
theorem off_zero (a : Fin 2) : (![0, 0] : Fin 2 → ℕ) a = 0 := by
  match a with
  | 0 => rfl
  | 1 => rfl

/-- The body, from its three blocks and the result's, leaves the three as they are and the product plus bias in the result's. -/
theorem body_step (c : Dev nD) (i : grid1.Coords)
    (M0 : Memref sig .tc .vmem S448x3456 .f32) (h0 : M0.IsWhole) (M1 : Memref sig .tc .vmem S3456x128 .f32) (h1 : M1.IsWhole)
    (M2 : Memref sig .tc .vmem S1x128 .f32) (h2 : M2.IsWhole) (M3 : Memref sig .tc .vmem S448x128 .f32) (h3 : M3.IsWhole)
    (f0 : Bf (F := F) c M0) (f1 : Bf (F := F) c M1) (f2 : Bf (F := F) c M2) (f3 : Bf (F := F) c M3) (E : Set ℕ) (Q : PUnit → sProp 𝕄) :
    iprop(pt c M0 f0 ∗ pt c M1 f1 ∗ pt c M2 f2 ∗ pt c M3 f3
        ∗ (iprop(pt c M0 f0 ∗ pt c M1 f1 ∗ pt c M2 f2
            ∗ ∃ f3' : Bf (F := F) c M3, ⌜M3.view.read (Elt F) f3' = k1_pay1 (M0.view.read (Elt F) f0) (M1.view.read (Elt F) f1) (M2.view.read (Elt F) f2)⌝ ∗ pt c M3 f3') -∗ Q ⟨⟩))
      ⊢ wp frame (wpE (defs₀ (F := F)) Variants.none c none) E (cc1_body i M0 h0 M1 h1 M2 h2 M3 h3) Q := by
  rw [cc1_body_eq_skeleton]; unfold cc1_body_skel
  iintro ⟨H0, H1, H2, H3, Hk⟩
  sl_exec!
  sl_step
  iapply Hk
  isplitl [H0]; · iexact H0
  isplitl [H1]; · iexact H1
  isplitl [H2]; · iexact H2
  iexists _; isplitr; swap; (· iexact H3)
  ipureintro
  unfold body_step.sl.H3_1
  refine (LaneScatter.read_whole_store _ _ off_zero _ _).trans ?_
  have e0 := View.ld_unit_lit (S := S448x3456) inb_S448x3456_S448x3456_0_0 (M0.view.read (Elt F) f0) off_zero
  have e1 := View.ld_unit_lit (S := S3456x128) inb_S3456x128_S3456x128_0_0 (M1.view.read (Elt F) f1) off_zero
  have e2 := View.ld_unit_lit (S := S1x128) inb_S1x128_S1x128_0_0 (M2.view.read (Elt F) f2) off_zero
  exact congr (congr (congrArg k1_pay1 e0) e1) e2

/-- A whole memref owned at `X`: its buffer held at contents that read `X`. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- The body, from its windows' buffers at their blocks. -/
theorem body_owns (c : Dev nD) (i : grid1.Coords)
    (M0 : Memref sig .tc .vmem S448x3456 .f32) (h0 : M0.IsWhole) (M1 : Memref sig .tc .vmem S3456x128 .f32) (h1 : M1.IsWhole)
    (M2 : Memref sig .tc .vmem S1x128 .f32) (h2 : M2.IsWhole) (M3 : Memref sig .tc .vmem S448x128 .f32) (h3 : M3.IsWhole)
    (X0 : S448x3456.Idx → F .f32) (X1 : S3456x128.Idx → F .f32) (X2 : S1x128.Idx → F .f32) (X3 : S448x128.Idx → F .f32) (Q : PUnit → sProp 𝕄) :
    iprop(owns (c : Thread nD τ) M0 fullShare X0 ∗ owns (c : Thread nD τ) M1 fullShare X1 ∗ owns (c : Thread nD τ) M2 fullShare X2 ∗ owns (c : Thread nD τ) M3 fullShare X3
        ∗ (iprop(owns (c : Thread nD τ) M0 fullShare X0 ∗ owns (c : Thread nD τ) M1 fullShare X1 ∗ owns (c : Thread nD τ) M2 fullShare X2
            ∗ owns (c : Thread nD τ) M3 fullShare (k1_pay1 X0 X1 X2)) -∗ Q ⟨⟩))
      ⊢ wp frame (wpE (defs₀ (F := F)) Variants.none c none) Set.univ (cc1_body i M0 h0 M1 h1 M2 h2 M3 h3) Q := by
  rw [owns_pt c M0 h0, owns_pt c M1 h1, owns_pt c M2 h2, owns_pt c M3 h3, owns_pt c M3 h3]
  iintro ⟨⟨%f0, %e0, H0⟩, ⟨%f1, %e1, H1⟩, ⟨%f2, %e2, H2⟩, ⟨%f3, -, H3⟩, Hk⟩
  iapply (body_step c i M0 h0 M1 h1 M2 h2 M3 h3 f0 f1 f2 f3 Set.univ Q)
  isplitl [H0]; · iexact H0
  isplitl [H1]; · iexact H1
  isplitl [H2]; · iexact H2
  isplitl [H3]; · iexact H3
  iintro ⟨H0, H1, H2, %f3', %e3, H3⟩
  iapply Hk
  isplitl [H0]; · iexists f0; isplitr; (· ipureintro; exact e0); iexact H0
  isplitl [H1]; · iexists f1; isplitr; (· ipureintro; exact e1); iexact H1
  isplitl [H2]; · iexists f2; isplitr; (· ipureintro; exact e2); iexact H2
  iexists f3'; isplitr
  · ipureintro; exact e3.trans (by rw [e0, e1, e2])
  · iexact H3

/-! ## The proof data, from a valuation of the host's arrays -/

variable (V : (c : Dev nD) → (b : Ref sig .tc) → Buf (Elt F) ((c : Thread nD τ).loc b)) (b : ℕ)

/-- The blocks the windows hold at point `t`: 448 rows of features, the weights, the bias. -/
abbrev feat (c : Dev nD) (t : Fin cfg1.N) : S448x3456.Idx → F .f32 := ((cfg1.win 0).blk t).view.read (Elt F) (V c main_v25)
abbrev wts (c : Dev nD) (t : Fin cfg1.N) : S3456x128.Idx → F .f32 := ((cfg1.win 1).blk t).view.read (Elt F) (V c main_v26)
abbrev bias (c : Dev nD) (t : Fin cfg1.N) : S1x128.Idx → F .f32 := ((cfg1.win 2).blk t).view.read (Elt F) (V c main_v27)

/-- The waits a core has recorded below a level. -/
def below (c : Dev nD) : Set (SemLoc sig × HIx 1) := {p | (K (F := F)).lev ((c : Thread nD τ), p.1) p.2 ≤ b}

/-- The proof data of the call entered from `V`: the arrays at `V`; after the body the inputs' blocks as fetched and the
    result's the product plus the bias; nothing owed. -/
def dat (c : Dev nD) : Dat τ (Elt F) (HIx 1) ℕ UU ℕ cfg1 c where
  A w := V c (Pipeline.arrRef spec1 w)
  after w t := match w with
    | ⟨0, _⟩ => feat V c t
    | ⟨1, _⟩ => wts V c t
    | ⟨2, _⟩ => bias V c t
    | ⟨3, _⟩ => k1_pay1 (feat V c t) (wts V c t) (bias V c t)
  Φ _ := Pipeline.scopedRest (Ix := HIx 1) (Name := ℕ) (U := UU) (Lvl := ℕ) (Val := Elt F) spec1 c
  q _ := fullShare
  owed _ := 0
  recorded _ := below (F := F) b c

variable (adm : (p : Fin 1) → (pcfgs (F := F) p).Adm)

def pdats : (p : Fin 1) → (c : Dev nD) → Dat τ (Elt F) (HIx 1) ℕ UU ℕ (Pipeline.pin (pcfgs (F := F)) adm p) c
  | ⟨0, _⟩ => fun c => dat V b c

theorem before_0 (c : Dev nD) (t : Fin cfg1.N) (d : (cfg1.win 0).block.Idx → Elt F (cfg1.win 0).elt) : (dat V b c).before 0 t d = feat V c t :=
  ((dat V b c).before_in_eq_fetched 0 rfl (fun _ => rfl) (fun _ _ _ => rfl) (fun _ => rfl) t d).trans rfl
theorem before_1 (c : Dev nD) (t : Fin cfg1.N) (d : (cfg1.win 1).block.Idx → Elt F (cfg1.win 1).elt) : (dat V b c).before 1 t d = wts V c t :=
  ((dat V b c).before_in_eq_fetched 1 rfl (fun _ => rfl) (fun _ _ _ => rfl) (fun _ => rfl) t d).trans rfl
theorem before_2 (c : Dev nD) (t : Fin cfg1.N) (d : (cfg1.win 2).block.Idx → Elt F (cfg1.win 2).elt) : (dat V b c).before 2 t d = bias V c t :=
  ((dat V b c).before_in_eq_fetched 2 rfl (fun _ => rfl) (fun _ _ _ => rfl) (fun _ => rfl) t d).trans rfl

/-- The body at a grid point takes its windows' buffers from what they hold before it to what they hold after. -/
theorem body_obligation (c : Dev nD) : BodyObligation (dat V b c) (defs₀ (F := F)) 𝒱₀ none Set.univ := fun t => by
  rw [bigSep_W1, bigSep_W1]
  rw [show (dat V b c).Φ t.succ = (dat V b c).Φ t.castSucc from rfl,
    show (dat V b c).owesAt none t.succ = (dat V b c).owesAt none t.castSucc from rfl]
  simp only [before_0, before_1, before_2]
  iintro ⟨HΦ, HO, ⟨%d0, H0⟩, ⟨%d1, H1⟩, ⟨%d2, H2⟩, ⟨%d3, H3⟩⟩
  iapply (body_owns (F := F) c (grid1.coords t) (win1_0.stage (cfg1.slots t 0)) (hstage1_0 ((cfg1.slots t 0).cast nbuf1_0)) (win1_1.stage (cfg1.slots t 1)) (hstage1_1 ((cfg1.slots t 1).cast nbuf1_1))
    (win1_2.stage (cfg1.slots t 2)) (hstage1_2 ((cfg1.slots t 2).cast nbuf1_2)) (win1_3.stage (cfg1.slots t 3)) (hstage1_3 ((cfg1.slots t 3).cast nbuf1_3))
    (feat V c t) (wts V c t) (bias V c t) ((dat V b c).before 3 t d3))
  isplitl [H0]; · iexact H0
  isplitl [H1]; · iexact H1
  isplitl [H2]; · iexact H2
  isplitl [H3]; · iexact H3
  iintro ⟨H0, H1, H2, H3⟩
  isplitl [HΦ]; · iexact HΦ
  isplitl [HO]; · iexact HO
  isplitl [H0]; · iexact H0
  isplitl [H1]; · iexact H1
  isplitl [H2]; · iexact H2
  iexact H3

/-! ## The call over the host's arrays -/

/-- The TensorCore's references that outlive a call. -/
def ucRefs : Finset (DevRef τ sig) := (StableHlo.tcRefs τ sig).filter fun b => ¬ b.isScoped

omit [FloatOps F] in
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

/-- The result after the call, as the write-backs leave it. -/
def product (c : Dev nD) : Buf (Elt F) ((c : Thread nD τ).loc main_v28) := (dat V b c).arrAt 3 cfg1.N

variable (Vp : (c : Dev nD) → (b : Ref sig .tc) → Buf (Elt F) ((c : Thread nD τ).loc b))

/-- The core owing nothing, its recorded waits below a level. -/
abbrev owesBelow (c : Dev nD) : sProp 𝕄 := iprop(∃ W : Waits sig (HIx 1), ⌜(↑W : Set (SemLoc sig × HIx 1)) ⊆ below (F := F) b c⌝ ∗ owes (c : Thread nD τ) (0 : CellTallies nD τ sig (HIx 1)) W)

set_option backward.isDefEq.respectTransparency.types false in
/-- The call, from every array at `V` to every array at `Vp`: `V` with the product in the result. -/
def reg (hVp_out : ∀ c, Vp c main_v28 = product V b c) (hVp_ne : ∀ c (r : Ref sig .tc), r ≠ main_v28 → Vp c r = V c r) :
    Pipeline.RegionSeg (pcfgs (F := F)) adm (pdats V b adm) none defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V b c).loose
  hwaits := Pipeline.hwaits_of_owed_zero _ _ _ _ (K (F := F)).L (K (F := F)).lev 0 fun _ _ => rfl
  pre c := iprop(unscopedBufs c (V c) ∗ owesBelow (F := F) b c)
  post c := iprop(unscopedBufs c (Vp c) ∗ owesBelow (F := F) b c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats V b adm) (launch1).win (launch1).arr_whole c
      ((pdats V b adm 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW hp)
      iexact HO
    isplitr; · iempintro
    iexact Hrest
  hin c := by
    rw [show (pdats V b adm 0 c).Φ 0 = Pipeline.scopedRest spec1 c from rfl]
    iintro ⟨-, -, Hr⟩; iexact Hr
  hout c := by
    rw [Pipeline.ownSems0_none, show (pdats V b adm 0 c).Φ (Fin.last _) = Pipeline.scopedRest spec1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) (launch1).win (launch1).arr_whole c
      (pdats V b adm) ((pdats V b adm 0 c).share_full fun _ => rfl) (V c) (Vp c) ((pdats V b adm 0 c).arrAt · cfg1.N)
      (fun w => by
        fin_cases w
        · exact ((pdats V b adm 0 c).arrAt_in 0 rfl _).trans (hVp_ne c main_v25 (by decide)).symm
        · exact ((pdats V b adm 0 c).arrAt_in 1 rfl _).trans (hVp_ne c main_v26 (by decide)).symm
        · exact ((pdats V b adm 0 c).arrAt_in 2 rfl _).trans (hVp_ne c main_v27 (by decide)).symm
        · exact (hVp_out c).symm)
      (fun r hr => hVp_ne c r fun h => hr (h ▸ Finset.mem_image.mpr ⟨3, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | ⟨w, s, rfl⟩
      · exact h
      · exact Nat.zero_le _
    iexact HO

end Cert.Proof.Product

end
-- ==== Proof.Steps.lean ====
/-
  One step of a tile of the SparseCore gather at a time: what the start and the wait of each of its copies do to the
  blocks and slots it holds. Each is stated at offsets that are given only up to an equation, so that it applies where
  the kernel has computed them.
-/
module

public import proofs.«01_k».proof.Proof.Setup

@[expose] public section

noncomputable section

namespace Cert.Proof.Tile

open Cert.KernelIdeal Cert.KernelIdeal.Gen
open Cert.Proof.Words

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

abbrev cV (L : grid0.Coords) : Fin τ.nSC := (L 0).castLE hcore0
abbrev jV (L : grid0.Coords) : Fin τ.nSub := (L 1).castLE hsub0
/-- The thread of tile `L` of device `d`. -/
abbrev thr (d : Dev nD) (L : grid0.Coords) : Thread nD τ := V d (cV L) (jV L)

section

variable (d : Dev nD) (L : grid0.Coords)

/-- A slot for indices, and one for rows, at contents `f`. -/
abbrev slotI (s : ℕ) (hs : s < 2) (f : S2x1x128.Idx → BitVec 32) : sProp 𝕄 := (thr d L).loc cc0_scoped0 ↦[sSet s hs]{fullShare} f
abbrev slotR (s : ℕ) (hs : s < 2) (f : S2x128x128.Idx → F .f32) : sProp 𝕄 := (thr d L).loc cc0_scoped2 ↦[rSet s hs]{fullShare} f

/-- The copy of index block `b` into slot `s`, in flight: it brings the slot filled, and the block back. -/
def inFl (fi : S1x1354752.Idx → BitVec 32) (s : ℕ) (hs : s < 2) (b : ℕ) (hb : b < 10584) : sProp 𝕄 :=
  Transfers.Flight countersEmb (thr d L) (.dma (inSem s hs)) (default : HIx 1) (sSlot s hs).view.dmaCredit
    iprop(slotI d L s hs (iFill fi b hb) ∗ (iLoc d ↦[iRange b (b + 1)]{fullShare} fi))
/-- The gather of row block `b` into slot `s`, in flight. -/
def gaFl (fx : S50001x128.Idx → F .f32) (fi : S1x1354752.Idx → BitVec 32) (q : PosShare TreeShare) (s : ℕ) (hs : s < 2) (b : ℕ) (hb : b < 10584) : sProp 𝕄 :=
  Transfers.Flight countersEmb (thr d L) (.dma cc0_scoped4.sem) (default : HIx 1) (rSlot s hs).view.dmaCredit
    iprop(slotR d L s hs (rFill fx fi b hb) ∗ (xLoc d ↦{q} fx) ∗ slotI d L s hs (iFill fi b hb))
/-- The copy of row block `b` out of slot `s`, in flight: it brings the block of the result written, and the slot back. -/
def outFl (fx : S50001x128.Idx → F .f32) (fi : S1x1354752.Idx → BitVec 32) (s : ℕ) (hs : s < 2) (b : ℕ) (hb : b < 10584) : sProp 𝕄 :=
  Transfers.Flight countersEmb (thr d L) (.dma (outSem s hs)) (default : HIx 1) (gBlk b hb).view.dmaCredit
    iprop((gLoc d ↦[gRange b (b + 1)]{fullShare} gVal fx fi) ∗ slotR d L s hs (rFill fx fi b hb))

/-- The tile owes `O`, and has waited since `W` for nothing but its own copies. -/
def owed (O : CellTallies nD τ sig (HIx 1)) (W : Waits sig (HIx 1)) : sProp 𝕄 :=
  iprop(∃ W', ⌜∀ p ∈ W', p ∈ W ∨ p.2 = none⌝ ∗ owes (thr d L) O W')

theorem owed_insert {O : CellTallies nD τ sig (HIx 1)} {W W' : Waits sig (HIx 1)} (h : ∀ p ∈ W', p ∈ W ∨ p.2 = none) (g : SemLoc sig) :
    (owes (thr d L) O (insert (g, (default : HIx 1)) W') : sProp 𝕄) ⊢ owed d L O W := by
  unfold owed
  iintro HO
  iexists _
  isplitr
  swap; · iexact HO
  ipureintro; intro p hp
  rcases Finset.mem_insert.mp hp with hp | hp
  · exact .inr (hp ▸ rfl)
  · exact h p hp

theorem set_xAll : (xAll).view.set = Finset.univ := by
  ext p
  have h0 : (p 0).val < 50001 := (p 0).isLt
  have h1 : (p 1).val < 128 := (p 1).isLt
  refine ⟨fun _ => Finset.mem_univ _, fun _ => ?_⟩
  rw [View.set_slice_whole]
  refine Rect.mem_set_unit.mpr fun a => ?_
  match a with
  | ⟨0, _⟩ => show 0 ≤ (p 0).val ∧ (p 0).val < 0 + 50001; omega
  | ⟨1, _⟩ => show 0 ≤ (p 1).val ∧ (p 1).val < 0 + 128; omega

variable [FloatOps F]

/-- The start of the copy of an index block into a slot. -/
theorem fetch_step {s b : ℕ} (hs : s < 2) (hb : b < 10584) {o1 : Fin 3 → ℕ} {o2 : Fin 2 → ℕ} {o3 : Fin 1 → ℕ}
    (e1 : o1 = ![s, 0, 0]) (e2 : o2 = ![0, 128 * b]) (e3 : o3 = ![s])
    (h1 : ∀ a, o1 a + S1x1x128.size a ≤ S2x1x128.size a) (h2 : ∀ a, o2 a + S1x128.size a ≤ S1x1354752.size a) (h3 : ∀ a, o3 a + S1.size a ≤ S2.size a)
    (fi : S1x1354752.Idx → BitVec 32) (fd : S2x1x128.Idx → BitVec 32) {hsrc hdst hsem} {Q : PUnit → sProp 𝕄} :
    iprop((iLoc d ↦[iRange b (b + 1)]{fullShare} fi) ∗ slotI d L s hs fd ∗ semVal (thr d L, .dma (inSem s hs)) 0)
      ⊢ iprop((inFl d L fi s hs b hb -∗ Q ⟨⟩)
          -∗ wp frame (wpE (defs₀ (F := F)) 𝒱₀ (thr d L) none) Set.univ
              (Prog.lift (.enqueueDma (iV.slice (Rect.unit (s := S1x1354752) o2 S1x128.size h2) (fun _ => rfl))
                (.here ((sV.slice (Rect.unit (s := S2x1x128) o1 S1x1x128.size h1) (fun _ => rfl)).squeeze S1x128 squeezes_S1x1x128_S1x128))
                (.dma ((cc0_scoped1.slice (Rect.unit (s := S2) o3 S1.size h3)).squeeze S_ squeezes_S1_S_).sem) hsrc hdst hsem)) Q) := by
  subst e1 e2 e3
  iintro ⟨Hi, Hs, Hv⟩ HQ
  ihave Hi' := (Entails.of_eq (show (iLoc d ↦[iRange b (b + 1)]{fullShare} fi : sProp 𝕄)
      = ((iBlk b hb).view.loc (thr d L) ↦[(iBlk b hb).view.set]{fullShare} fi) by rw [set_iBlk])) $$ Hi
  iapply (Transfers.wp_dmaLocal countersEmb 𝒱₀ (thr d L) none (src := iBlk b hb) (dst := sSlot s hs) (sm := .dma (inSem s hs)) (k := Prog.ret)
    (default : HIx 1) (sSlot s hs).view.dmaCredit rfl (View.dmaCredit_pos _ (by decide)) (Finset.Subset.refl _)) $$ [Hi' Hs Hv]
  · isplitl [Hi']; · iexact Hi'
    isplitl [Hs]; · iexact Hs
    iexact Hv
  iintro Hf
  rw [wp_ret]
  imodintro
  iapply HQ
  unfold inFl
  iapply (Transfers.Flight_mono (EC := countersEmb) (c := thr d L) ?_) $$ Hf
  iintro ⟨Hs, Hi⟩
  isplitl [Hs]
  · iapply (Entails.of_eq (pointsTo_congr (fetched (F := F) fi s hs b hb fd))) $$ Hs
  · iapply (Entails.of_eq (show ((iBlk b hb).view.loc (thr d L) ↦[(iBlk b hb).view.set]{fullShare} fi : sProp 𝕄)
      = (iLoc d ↦[iRange b (b + 1)]{fullShare} fi) by rw [set_iBlk])) $$ Hi

/-- Its wait. -/
theorem waitIn_step {s b : ℕ} (hs : s < 2) (hb : b < 10584) {o1 : Fin 3 → ℕ} {o2 : Fin 2 → ℕ} {o3 : Fin 1 → ℕ}
    (e1 : o1 = ![s, 0, 0]) (e3 : o3 = ![s])
    (h1 : ∀ a, o1 a + S1x1x128.size a ≤ S2x1x128.size a) (h2 : ∀ a, o2 a + S1x128.size a ≤ S1x1354752.size a) (h3 : ∀ a, o3 a + S1.size a ≤ S2.size a)
    (fi : S1x1354752.Idx → BitVec 32) {O : CellTallies nD τ sig (HIx 1)} {W : Waits sig (HIx 1)} {hsrc hdst} {Q : PUnit → sProp 𝕄} :
    iprop(inFl d L fi s hs b hb ∗ owed d L O W ∗ Transfers.MayWaits (thr d L) (default : HIx 1) O)
      ⊢ iprop(((slotI d L s hs (iFill fi b hb) ∗ (iLoc d ↦[iRange b (b + 1)]{fullShare} fi) ∗ semVal (thr d L, .dma (inSem s hs)) 0 ∗ owed d L O W) -∗ Q ⟨⟩)
          -∗ wp frame (wpE (defs₀ (F := F)) 𝒱₀ (thr d L) none) Set.univ
              (Prog.lift (.waitDma2 ((cc0_scoped1.slice (Rect.unit (s := S2) o3 S1.size h3)).squeeze S_ squeezes_S1_S_).sem
                (iV.slice (Rect.unit (s := S1x1354752) o2 S1x128.size h2) (fun _ => rfl))
                ((sV.slice (Rect.unit (s := S2x1x128) o1 S1x1x128.size h1) (fun _ => rfl)).squeeze S1x128 squeezes_S1x1x128_S1x128) hsrc hdst)) Q) := by
  subst e1 e3
  unfold inFl
  iintro ⟨Hf, HO, Hmw⟩ HQ
  ihave HO := (Entails.of_eq (show (owed d L O W : sProp 𝕄) = iprop(∃ W', ⌜∀ p ∈ W', p ∈ W ∨ p.2 = none⌝ ∗ owes (thr d L) O W') from rfl)) $$ HO
  icases HO with ⟨%W', %hW', HO⟩
  iapply (Transfers.wp_waitLocalO countersEmb 𝒱₀ (thr d L) none (sem := inSem s hs) (dstw := sSlot s hs) (k := Prog.ret) (default : HIx 1) rfl) $$ [Hf HO Hmw]
  · isplitl [Hf]; · iexact Hf
    isplitl [HO]; · iexact HO
    iapply (Transfers.MayWaits.elim (SemLoc.dma (inSem s hs))) $$ Hmw
  iintro ⟨⟨Hs, Hi⟩, Hv, HO⟩
  rw [wp_ret]
  imodintro
  iapply HQ
  isplitl [Hs]; · iexact Hs
  isplitl [Hi]; · iexact Hi
  isplitl [Hv]; · iexact Hv
  iapply (owed_insert (F := F) d L hW' _) $$ HO

/-- The start of the gather of a row block by the block's list of indices. -/
theorem gather_step {s b : ℕ} (hs : s < 2) (hb : b < 10584) {o1 o2 : Fin 3 → ℕ} (e1 : o1 = ![s, 0, 0]) (e2 : o2 = ![s, 0, 0])
    (h1 : ∀ a, o1 a + S1x1x128.size a ≤ S2x1x128.size a) (h2 : ∀ a, o2 a + S1x128x128.size a ≤ S2x128x128.size a)
    (fx : S50001x128.Idx → F .f32) (fi : S1x1354752.Idx → BitVec 32) (hfi : ∀ p, (fi p).toNat < 50001) (q : PosShare TreeShare)
    (fr : S2x128x128.Idx → F .f32) {hp hn hsrc he hsp hr} {Q : PUnit → sProp 𝕄} :
    iprop(slotI d L s hs (iFill fi b hb) ∗ slotR d L s hs fr ∗ (xLoc d ↦{q} fx) ∗ semVal (thr d L, .dma cc0_scoped4.sem) 0)
      ⊢ iprop((gaFl d L fx fi q s hs b hb -∗ Q ⟨⟩)
          -∗ wp frame (wpE (defs₀ (F := F)) 𝒱₀ (thr d L) none) Set.univ
              (SparseCore.enqueueIndirectGather hp xAll
                ((rV.slice (Rect.unit (s := S2x128x128) o2 S1x128x128.size h2) (fun _ => rfl)).squeeze S128x128 squeezes_S1x128x128_S128x128)
                gathers_S50001x128_S128x128
                ((((sV.slice (Rect.unit (s := S2x1x128) o1 S1x1x128.size h1) (fun _ => rfl)).squeeze S1x128 squeezes_S1x1x128_S1x128).slice
                  (Rect.unit (s := S1x128) ![0, 0] S1x128.size inb_S1x128_S1x128_0_0) (fun _ => rfl)).squeeze S128 squeezes_S1x128_S128)
                hn cc0_scoped4.sem hsrc he hsp hr) Q) := by
  subst e1 e2
  iintro ⟨Hi, Hr, Hx, Hv⟩ HQ
  ihave Hi' := (Entails.of_eq (show (slotI d L s hs (iFill fi b hb) : sProp 𝕄)
      = ((sList s hs).view.loc (thr d L) ↦[(sList s hs).view.set]{fullShare} iFill fi b hb) by rw [set_sList])) $$ Hi
  ihave Hx' := (Entails.of_eq (show (xLoc d ↦{q} fx : sProp 𝕄) = ((xAll).view.loc (thr d L) ↦[(xAll).view.set]{q} fx) by rw [set_xAll])) $$ Hx
  have hk := SparseCore.wp_indirectGatherLocal (F := F) (defs := defs₀ (F := F)) (U := UU) (Lvl := ℕ) (Name := ℕ) countersEmb 𝒱₀ (thr d L) none (src := xAll) (dst := rSlot s hs) (offs := sList s hs) (hg := gathers_S50001x128_S128x128)
    (hn := hn) (sem := cc0_scoped4.sem) (hp := hp) (hsrc := hsrc) (he := he) (hsp := hsp) (hr := hr) (k := Prog.ret) (Q := Q) (q := q) (qo := fullShare) (fs := fx) (fd := fr) (default : HIx 1) (rSlot s hs).view.dmaCredit
    (SparseCore.sum_rowCredit_eq_dmaCredit (rSlot s hs) _ (fun s' => rfl)) (by decide) (listed_lt (F := F) fi hfi s hs b hb)
  rw [show ∀ (p : Prog (TpuEff nD τ sig (Elt F) Λ₀ (thr d L).2) PUnit), (p >>= Prog.ret) = p from fun p => bind_pure p] at hk
  iapply hk $$ [Hi' Hr Hx' Hv]
  · isplitl [Hx']; · iexact Hx'
    isplitl [Hr]; · iexact Hr
    isplitl [Hi']; · iexact Hi'
    iexact Hv
  iintro Hf
  rw [wp_ret]
  imodintro
  iapply HQ
  unfold gaFl
  iapply (Transfers.Flight_mono (EC := countersEmb) (c := thr d L) ?_) $$ Hf
  iintro ⟨Hr, Hx, Hi⟩
  isplitl [Hr]
  · iapply (Entails.of_eq (pointsTo_congr (gathered (F := F) fx fi hfi s hs b hb fr hn))) $$ Hr
  isplitl [Hx]
  · iapply (Entails.of_eq (show ((xAll).view.loc (thr d L) ↦[(xAll).view.set]{q} fx : sProp 𝕄) = (xLoc d ↦{q} fx) by rw [set_xAll])) $$ Hx
  · iapply (Entails.of_eq (show ((sList s hs).view.loc (thr d L) ↦[(sList s hs).view.set]{fullShare} iFill fi b hb : sProp 𝕄)
      = slotI d L s hs (iFill fi b hb) by rw [set_sList])) $$ Hi

/-- Its wait. -/
theorem waitGather_step {s b : ℕ} (hs : s < 2) (hb : b < 10584) {o2 : Fin 3 → ℕ} (e2 : o2 = ![s, 0, 0])
    (h2 : ∀ a, o2 a + S1x128x128.size a ≤ S2x128x128.size a)
    (fx : S50001x128.Idx → F .f32) (fi : S1x1354752.Idx → BitVec 32) (q : PosShare TreeShare)
    {O : CellTallies nD τ sig (HIx 1)} {W : Waits sig (HIx 1)} {hsrc hdst} {Q : PUnit → sProp 𝕄} :
    iprop(gaFl d L fx fi q s hs b hb ∗ owed d L O W ∗ Transfers.MayWaits (thr d L) (default : HIx 1) O)
      ⊢ iprop(((slotR d L s hs (rFill fx fi b hb) ∗ (xLoc d ↦{q} fx) ∗ slotI d L s hs (iFill fi b hb)
            ∗ semVal (thr d L, .dma cc0_scoped4.sem) 0 ∗ owed d L O W) -∗ Q ⟨⟩)
          -∗ wp frame (wpE (defs₀ (F := F)) 𝒱₀ (thr d L) none) Set.univ
              (SparseCore.waitIndirectGather cc0_scoped4.sem xAll
                ((rV.slice (Rect.unit (s := S2x128x128) o2 S1x128x128.size h2) (fun _ => rfl)).squeeze S128x128 squeezes_S1x128x128_S128x128) hsrc hdst) Q) := by
  subst e2
  unfold gaFl
  iintro ⟨Hf, HO, Hmw⟩ HQ
  ihave HO := (Entails.of_eq (show (owed d L O W : sProp 𝕄) = iprop(∃ W', ⌜∀ p ∈ W', p ∈ W ∨ p.2 = none⌝ ∗ owes (thr d L) O W') from rfl)) $$ HO
  icases HO with ⟨%W', %hW', HO⟩
  iapply (Transfers.wp_waitLocalO countersEmb 𝒱₀ (thr d L) none (sem := cc0_scoped4.sem) (dstw := rSlot s hs) (k := Prog.ret) (default : HIx 1) rfl) $$ [Hf HO Hmw]
  · isplitl [Hf]; · iexact Hf
    isplitl [HO]; · iexact HO
    iapply (Transfers.MayWaits.elim (SemLoc.dma cc0_scoped4.sem)) $$ Hmw
  iintro ⟨⟨Hr, Hx, Hi⟩, Hv, HO⟩
  rw [wp_ret]
  imodintro
  iapply HQ
  isplitl [Hr]; · iexact Hr
  isplitl [Hx]; · iexact Hx
  isplitl [Hi]; · iexact Hi
  isplitl [Hv]; · iexact Hv
  iapply (owed_insert (F := F) d L hW' _) $$ HO

/-- The start of the copy of a row block out of its slot. -/
theorem out_step {s b : ℕ} (hs : s < 2) (hb : b < 10584) {o1 : Fin 3 → ℕ} {o2 : Fin 2 → ℕ} {o3 : Fin 1 → ℕ}
    (e1 : o1 = ![s, 0, 0]) (e2 : o2 = ![128 * b, 0]) (e3 : o3 = ![s])
    (h1 : ∀ a, o1 a + S1x128x128.size a ≤ S2x128x128.size a) (h2 : ∀ a, o2 a + S128x128.size a ≤ S1354752x128.size a) (h3 : ∀ a, o3 a + S1.size a ≤ S2.size a)
    (fx : S50001x128.Idx → F .f32) (fi : S1x1354752.Idx → BitVec 32) (fg : S1354752x128.Idx → F .f32) {hsrc hdst hsem} {Q : PUnit → sProp 𝕄} :
    iprop(slotR d L s hs (rFill fx fi b hb) ∗ (gLoc d ↦[gRange b (b + 1)]{fullShare} fg) ∗ semVal (thr d L, .dma (outSem s hs)) 0)
      ⊢ iprop((outFl d L fx fi s hs b hb -∗ Q ⟨⟩)
          -∗ wp frame (wpE (defs₀ (F := F)) 𝒱₀ (thr d L) none) Set.univ
              (Prog.lift (.enqueueDma ((rV.slice (Rect.unit (s := S2x128x128) o1 S1x128x128.size h1) (fun _ => rfl)).squeeze S128x128 squeezes_S1x128x128_S128x128)
                (.here (gV.slice (Rect.unit (s := S1354752x128) o2 S128x128.size h2) (fun _ => rfl)))
                (.dma ((cc0_scoped3.slice (Rect.unit (s := S2) o3 S1.size h3)).squeeze S_ squeezes_S1_S_).sem) hsrc hdst hsem)) Q) := by
  subst e1 e2 e3
  iintro ⟨Hr, Hg, Hv⟩ HQ
  ihave Hg' := (Entails.of_eq (show (gLoc d ↦[gRange b (b + 1)]{fullShare} fg : sProp 𝕄)
      = ((gBlk b hb).view.loc (thr d L) ↦[(gBlk b hb).view.set]{fullShare} fg) by rw [set_gBlk])) $$ Hg
  iapply (Transfers.wp_dmaLocal countersEmb 𝒱₀ (thr d L) none (src := rSlot s hs) (dst := gBlk b hb) (sm := .dma (outSem s hs)) (k := Prog.ret)
    (default : HIx 1) (gBlk b hb).view.dmaCredit rfl (View.dmaCredit_pos _ (by decide)) (Finset.Subset.refl _)) $$ [Hr Hg' Hv]
  · isplitl [Hr]; · iexact Hr
    isplitl [Hg']; · iexact Hg'
    iexact Hv
  iintro Hf
  rw [wp_ret]
  imodintro
  iapply HQ
  unfold outFl
  iapply (Transfers.Flight_mono (EC := countersEmb) (c := thr d L) ?_) $$ Hf
  iintro ⟨Hg, Hr⟩
  isplitl [Hg]
  · ihave Hg' := (Entails.of_eq (pointsTo_congr (stored (F := F) fx fi s hs b hb fg))) $$ Hg
    iapply (Entails.of_eq (show ((gBlk b hb).view.loc (thr d L) ↦[(gBlk b hb).view.set]{fullShare} gVal fx fi : sProp 𝕄)
      = (gLoc d ↦[gRange b (b + 1)]{fullShare} gVal fx fi) by rw [set_gBlk])) $$ Hg'
  · iexact Hr

/-- Its wait. -/
theorem waitOut_step {s b : ℕ} (hs : s < 2) (hb : b < 10584) {o1 : Fin 3 → ℕ} {o2 : Fin 2 → ℕ} {o3 : Fin 1 → ℕ}
    (e2 : o2 = ![128 * b, 0]) (e3 : o3 = ![s])
    (h1 : ∀ a, o1 a + S1x128x128.size a ≤ S2x128x128.size a) (h2 : ∀ a, o2 a + S128x128.size a ≤ S1354752x128.size a) (h3 : ∀ a, o3 a + S1.size a ≤ S2.size a)
    (fx : S50001x128.Idx → F .f32) (fi : S1x1354752.Idx → BitVec 32)
    {O : CellTallies nD τ sig (HIx 1)} {W : Waits sig (HIx 1)} {hsrc hdst} {Q : PUnit → sProp 𝕄} :
    iprop(outFl d L fx fi s hs b hb ∗ owed d L O W ∗ Transfers.MayWaits (thr d L) (default : HIx 1) O)
      ⊢ iprop((((gLoc d ↦[gRange b (b + 1)]{fullShare} gVal fx fi) ∗ slotR d L s hs (rFill fx fi b hb)
            ∗ semVal (thr d L, .dma (outSem s hs)) 0 ∗ owed d L O W) -∗ Q ⟨⟩)
          -∗ wp frame (wpE (defs₀ (F := F)) 𝒱₀ (thr d L) none) Set.univ
              (Prog.lift (.waitDma2 ((cc0_scoped3.slice (Rect.unit (s := S2) o3 S1.size h3)).squeeze S_ squeezes_S1_S_).sem
                ((rV.slice (Rect.unit (s := S2x128x128) o1 S1x128x128.size h1) (fun _ => rfl)).squeeze S128x128 squeezes_S1x128x128_S128x128)
                (gV.slice (Rect.unit (s := S1354752x128) o2 S128x128.size h2) (fun _ => rfl)) hsrc hdst)) Q) := by
  subst e2 e3
  unfold outFl
  iintro ⟨Hf, HO, Hmw⟩ HQ
  ihave HO := (Entails.of_eq (show (owed d L O W : sProp 𝕄) = iprop(∃ W', ⌜∀ p ∈ W', p ∈ W ∨ p.2 = none⌝ ∗ owes (thr d L) O W') from rfl)) $$ HO
  icases HO with ⟨%W', %hW', HO⟩
  iapply (Transfers.wp_waitLocalO countersEmb 𝒱₀ (thr d L) none (sem := outSem s hs) (dstw := gBlk b hb) (k := Prog.ret) (default : HIx 1) rfl) $$ [Hf HO Hmw]
  · isplitl [Hf]; · iexact Hf
    isplitl [HO]; · iexact HO
    iapply (Transfers.MayWaits.elim (SemLoc.dma (outSem s hs))) $$ Hmw
  iintro ⟨⟨Hg, Hr⟩, Hv, HO⟩
  rw [wp_ret]
  imodintro
  iapply HQ
  isplitl [Hg]; · iexact Hg
  isplitl [Hr]; · iexact Hr
  isplitl [Hv]; · iexact Hv
  iapply (owed_insert (F := F) d L hW' _) $$ HO

end

end Cert.Proof.Tile

end
-- ==== Proof.Tile.lean ====
/-
  The run of one tile of the SparseCore gather: the invariant of its loop, one trip, the whole kernel. Between trips
  `t` and `t + 1` the copy of index block `t + 1` in and of row block `t` out are in flight.
-/
module

public import proofs.«01_k».proof.Proof.Steps

@[expose] public section

noncomputable section

namespace Cert.Proof.Tile

open Cert.KernelIdeal Cert.KernelIdeal.Gen
open Cert.Proof.Words

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable (d : Dev nD) (L : grid0.Coords)
variable (fx : S50001x128.Idx → F .f32) (fi : S1x1354752.Idx → BitVec 32) (fg : S1354752x128.Idx → F .f32)

theorem mod2 (t : ℕ) : t % 2 < 2 := Nat.mod_lt _ (by omega)
theorem blk_lt {t : ℕ} (h : t < cnt L) : base L + t < 10584 := by have := base_cnt L; omega

/-- Slot `s` for indices, and for rows, free: at whatever contents, no copy in flight on its semaphore. -/
def freeI (s : ℕ) (hs : s < 2) : sProp 𝕄 := iprop((∃ f, slotI d L s hs f) ∗ semVal (thr d L, .dma (inSem s hs)) 0)
def freeR (s : ℕ) (hs : s < 2) : sProp 𝕄 := iprop((∃ f, slotR d L s hs f) ∗ semVal (thr d L, .dma (outSem s hs)) 0)

theorem freeI_congr {s s' : ℕ} {hs : s < 2} {hs' : s' < 2} (h : s = s') : (freeI d L s hs : sProp 𝕄) = freeI d L s' hs' := by subst h; rfl
theorem freeR_congr {s s' : ℕ} {hs : s < 2} {hs' : s' < 2} (h : s = s') : (freeR d L s hs : sProp 𝕄) = freeR d L s' hs' := by subst h; rfl
theorem outFl_congr {s s' b b' : ℕ} {hs : s < 2} {hs' : s' < 2} {hb : b < 10584} {hb' : b' < 10584} (h : s = s') (e : b = b') :
    (outFl d L fx fi s hs b hb : sProp 𝕄) = outFl d L fx fi s' hs' b' hb' := by subst h e; rfl

/-- Slot `t % 2` for indices before trip `t`: block `t` on its way into it and the later blocks not yet read, or, the
    trips done, free. -/
def cur (t : ℕ) : sProp 𝕄 :=
  if h : t < cnt L then
    iprop(inFl d L fi (t % 2) (mod2 t) (base L + t) (blk_lt L h) ∗ (iLoc d ↦[iRange (base L + (t + 1)) (base L + cnt L)]{fullShare} fi))
  else freeI d L (t % 2) (mod2 t)
/-- The other slot for rows before trip `t`: block `t - 1` on its way out of it or, before the first trip, free. -/
def prev (t : ℕ) : sProp 𝕄 :=
  if h : 0 < t ∧ t ≤ cnt L then
    outFl d L fx fi ((t - 1) % 2) (mod2 _) (base L + (t - 1)) (blk_lt L (by omega))
  else freeR d L ((t + 1) % 2) (mod2 _)

theorem cur_lt {t : ℕ} (h : t < cnt L) : (cur d L fi t : sProp 𝕄)
    = iprop(inFl d L fi (t % 2) (mod2 t) (base L + t) (blk_lt L h) ∗ (iLoc d ↦[iRange (base L + (t + 1)) (base L + cnt L)]{fullShare} fi)) := dif_pos h
theorem cur_end {t : ℕ} (h : ¬ t < cnt L) : (cur d L fi t : sProp 𝕄) = freeI d L (t % 2) (mod2 t) := dif_neg h
theorem prev_pos {t : ℕ} (h : 0 < t ∧ t ≤ cnt L) : (prev d L fx fi t : sProp 𝕄)
    = outFl d L fx fi ((t - 1) % 2) (mod2 _) (base L + (t - 1)) (blk_lt L (by omega)) := dif_pos h
theorem prev_zero : (prev d L fx fi 0 : sProp 𝕄) = freeR d L 1 (by omega) := dif_neg (by omega)

/-- What the tile holds before trip `t`. -/
def held (q : PosShare TreeShare) (O : CellTallies nD τ sig (HIx 1)) (W : Waits sig (HIx 1)) (t : ℕ) : sProp 𝕄 :=
  iprop((iLoc d ↦[iRange (base L) (base L + t)]{fullShare} fi) ∗ cur d L fi t ∗ freeI d L ((t + 1) % 2) (mod2 _)
    ∗ (gLoc d ↦[gRange (base L) (base L + (t - 1))]{fullShare} gVal fx fi) ∗ (gLoc d ↦[gRange (base L + t) (base L + cnt L)]{fullShare} fg)
    ∗ prev d L fx fi t ∗ freeR d L (t % 2) (mod2 _)
    ∗ (xLoc d ↦{q} fx) ∗ semVal (thr d L, .dma cc0_scoped4.sem) 0 ∗ owed d L O W ∗ Transfers.MayWaits (thr d L) (default : HIx 1) O)

/-- The loop's invariant: its counters, and what the tile holds. -/
def inv (q : PosShare TreeShare) (O : CellTallies nD τ sig (HIx 1)) (W : Waits sig (HIx 1)) (t : ℕ)
    (acc : BitVec 32 × BitVec 32 × BitVec 32 × BitVec 32 × BitVec 32) : sProp 𝕄 :=
  iprop(⌜t ≤ cnt L ∧ acc = (c6 L t, c7 t, c7 t, c9 t, c10 L t)⌝ ∗ held d L fx fi fg q O W t)

variable [FloatOps F]

/-- The kernel at tile `L`, on its buffers. -/
abbrev bodyAt (h1 : k0_cond1 L = 1#1) (v41 v45 : BitVec 32) :=
  k0_t1_body (F := F) L xV (Memref.isWhole_whole _) iV (Memref.isWhole_whole _) gV (Memref.isWhole_whole _)
    sV (Memref.isWhole_whole _) cc0_scoped1 rV (Memref.isWhole_whole _) cc0_scoped3 cc0_scoped4 cc0_scoped5
    (w5 L) (w10 L) (Scalar.muli 1#32 (w5 L)) h1 v41 0#32 0#32 0#32 0#32 0#32 v45

/-- The words trip `t` computes before its copies, at the counters the invariant gives. -/
abbrev ivAt (t : ℕ) : BitVec 32 := Scf.iv 0#32 1#32 t
abbrev hereAt (t : ℕ) : BitVec 32 := Scalar.addi (c10 L t) (w10 L)
abbrev prevAt (t : ℕ) : BitVec 32 := Scalar.addi (prv (w5 L) (c10 L t)) (w10 L)
abbrev nextAt (t : ℕ) : BitVec 32 := Scalar.addi (nxt (w5 L) (c10 L t)) (w10 L)
abbrev in6At (t : ℕ) : BitVec 32 :=
  Scalar.select (Scalar.andi (Scalar.andi (Scalar.cmpi .ne (hereAt L t) (nextAt L t))
      (Scalar.xori (Scalar.cmpi .sge (ivAt t) (Scalar.addi (Scalar.subi (Scalar.muli 1#32 (w5 L)) 2#32) 1#32)) 1#1)) 1#1)
      (Scalar.addi (c6 L t) 1#32) (c6 L t)

set_option maxHeartbeats 8000000 in
/-- A trip's first part: the copy of the next index block is started, unless this trip is the last. -/
theorem part1_step (t : Fin (k0_t1_loop L).trips) (ht : t.val < cnt L) (h1 : k0_cond1 L = 1#1) {Q : _ → sProp 𝕄} :
    iprop((iLoc d ↦[iRange (base L + (t.val + 1)) (base L + cnt L)]{fullShare} fi) ∗ freeI d L ((t.val + 1) % 2) (mod2 _))
      ⊢ iprop((cur d L fi (t.val + 1) -∗ Q ⟨chk3_at L ht, chk2_at L ht, chk1_at L t ht, ivAt t.val, Scalar.muli 1#32 (w5 L), Scalar.cmpi .eq (ivAt t.val) 0#32,
            Scalar.cmpi .eq (ivAt t.val) (Scalar.subi (Scalar.muli 1#32 (w5 L)) 1#32), hereAt L t.val, prevAt L t.val, nextAt L t.val, in6At L t.val,
            Scalar.cmpi .ne (hereAt L t.val) (nextAt L t.val), 2#32⟩)
          -∗ wp frame (wpE (defs₀ (F := F)) 𝒱₀ (thr d L) none) Set.univ
            (k0_part1 (F := F) L xV (Memref.isWhole_whole _) iV (Memref.isWhole_whole _) gV (Memref.isWhole_whole _)
              sV (Memref.isWhole_whole _) cc0_scoped1 rV (Memref.isWhole_whole _) cc0_scoped3 cc0_scoped4 cc0_scoped5
              (w5 L) (w10 L) h1 0#32 1#32 t (c6 L t.val) (c7 t.val) (c7 t.val) (c9 t.val) (c10 L t.val)) Q) := by
  have hl := cnt_lt L
  have hb := base_cnt L
  rw [k0_part1_eq_skeleton]; unfold k0_part1_skel
  iintro ⟨Hi, Hf⟩ HQ
  rw [wp_bind]
  iapply (wp_assume 𝒱₀ (thr d L) none Set.univ (chk3_at L ht))
  rw [wp_ret]; imodintro
  rw [wp_bind]
  iapply (wp_assume 𝒱₀ (thr d L) none Set.univ (chk2_at L ht))
  rw [wp_ret]; imodintro
  rw [wp_bind]
  iapply (wp_assume 𝒱₀ (thr d L) none Set.univ (chk1_at L t ht))
  rw [wp_ret]; imodintro
  by_cases h : t.val + 1 < cnt L
  · have h3 : k0_cond3 L t (c10 L t.val) = 1#1 := by rw [c10_of_lt L ht]; exact (cond3_eq L t ht).mpr h
    rw [dif_pos h3, wp_bind]
    unfold freeI
    icases Hf with ⟨⟨%f, Hs⟩, Hv⟩
    ihave Hi' := (Entails.of_eq (show (iLoc d ↦[iRange (base L + (t.val + 1)) (base L + cnt L)]{fullShare} fi : sProp 𝕄)
      = iLoc d ↦[iRange (base L + (t.val + 1)) (base L + (t.val + 1) + 1) ∪ iRange (base L + (t.val + 1 + 1)) (base L + cnt L)]{fullShare} fi by
        rw [show base L + (t.val + 1) + 1 = base L + (t.val + 1 + 1) by omega, ← iRange_union (by omega) (by omega)])) $$ Hi
    ihave Hi'' := (pointsTo_union (iRange_disjoint (by omega))).1 $$ Hi'
    icases Hi'' with ⟨Hb, Hrest⟩
    iapply (fetch_step (F := F) d L (mod2 (t.val + 1)) (blk_lt L h)
      (by unfold c6; rw [off4_eq (by omega), Nat.min_eq_left (by omega)]) (by rw [c10_of_lt L ht, off5_eq L h]) (by rw [c6_of_lt L ht, off6_eq (by omega)]) _ _ _ fi f) $$ [Hb Hs Hv]
    · isplitl [Hb]; · iexact Hb
      isplitl [Hs]; · iexact Hs
      iexact Hv
    iintro Hfl
    rw [wp_pure]
    imodintro
    iapply HQ
    rw [cur_lt (F := F) d L fi h]
    isplitl [Hfl]; · iexact Hfl
    iexact Hrest
  · have h3 : ¬ k0_cond3 L t (c10 L t.val) = 1#1 := by rw [c10_of_lt L ht]; exact fun e => h ((cond3_eq L t ht).mp e)
    rw [dif_neg h3, wp_pure]
    imodintro
    iapply HQ
    rw [cur_end (F := F) d L fi h]
    iexact Hf

set_option maxHeartbeats 8000000 in
/-- Its second part: the wait for the trip's index block, and the gather of its rows. -/
theorem part2_step (hfi : ∀ p, (fi p).toNat < 50001) (q : PosShare TreeShare) (O : CellTallies nD τ sig (HIx 1)) (W : Waits sig (HIx 1))
    (t : Fin (k0_t1_loop L).trips) (ht : t.val < cnt L) (h1 : k0_cond1 L = 1#1) (a5 v80 : BitVec 32) (v81 : BitVec 1) (v84 v90 : BitVec 32) (v113 : BitVec 1)
    {Q : PUnit → sProp 𝕄} :
    iprop(inFl d L fi (t.val % 2) (mod2 _) (base L + t.val) (blk_lt L ht) ∗ freeR d L (t.val % 2) (mod2 _) ∗ (xLoc d ↦{q} fx)
        ∗ semVal (thr d L, .dma cc0_scoped4.sem) 0 ∗ owed d L O W ∗ Transfers.MayWaits (thr d L) (default : HIx 1) O)
      ⊢ iprop(((iLoc d ↦[iRange (base L + t.val) (base L + t.val + 1)]{fullShare} fi) ∗ freeI d L (t.val % 2) (mod2 _)
            ∗ slotR d L (t.val % 2) (mod2 _) (rFill fx fi (base L + t.val) (blk_lt L ht)) ∗ semVal (thr d L, .dma (outSem (t.val % 2) (mod2 _))) 0 ∗ (xLoc d ↦{q} fx)
            ∗ semVal (thr d L, .dma cc0_scoped4.sem) 0 ∗ owed d L O W ∗ Transfers.MayWaits (thr d L) (default : HIx 1) O -∗ Q ⟨⟩)
          -∗ wp frame (wpE (defs₀ (F := F)) 𝒱₀ (thr d L) none) Set.univ
            (k0_part2 (F := F) L xV (Memref.isWhole_whole _) iV (Memref.isWhole_whole _) gV (Memref.isWhole_whole _)
              sV (Memref.isWhole_whole _) cc0_scoped1 rV (Memref.isWhole_whole _) cc0_scoped3 cc0_scoped4 cc0_scoped5
              h1 t (c6 L t.val) (c7 t.val) (c7 t.val) (c9 t.val) (c10 L t.val) (chk3_at L ht) (chk2_at L ht) (chk1_at L t ht)
              a5 v80 v81 v84 v90 v113 2#32) Q) := by
  have hl := cnt_lt L
  have hb := base_cnt L
  rw [k0_part2_eq_skeleton]; unfold k0_part2_skel
  simp only [ite_self]
  have h4 : k0_cond4 L t (c10 L t.val) = 1#1 := by rw [c10_of_lt L ht]; exact cond4_eq L t ht
  iintro ⟨Hf, Hr, Hx, Hv, HO, #Hmw⟩ HQ
  rw [dif_pos h4, wp_bind]
  iapply (waitIn_step (F := F) d L (mod2 t.val) (blk_lt L ht) (by unfold c7; rw [off7_eq (by omega)]) (by unfold c7; rw [off9_eq (by omega)]) _ _ _ fi) $$ [Hf HO]
  · isplitl [Hf]; · iexact Hf
    isplitl [HO]; · iexact HO
    iexact Hmw
  iintro ⟨Hs, Hi, Hiv, HO⟩
  unfold freeR
  icases Hr with ⟨⟨%fr, Hr⟩, Hrv⟩
  rw [wp_bind]
  iapply (gather_step (F := F) d L (mod2 t.val) (blk_lt L ht) (by unfold c7; rw [off11_eq (by omega)]) (by unfold c7; rw [off10_eq (by omega)]) _ _ fx fi hfi q fr) $$ [Hs Hr Hx Hv]
  · isplitl [Hs]; · iexact Hs
    isplitl [Hr]; · iexact Hr
    isplitl [Hx]; · iexact Hx
    iexact Hv
  iintro Hg
  rw [wp_bind]
  iapply (waitGather_step (F := F) d L (mod2 t.val) (blk_lt L ht) (by unfold c7; rw [off10_eq (by omega)]) _ fx fi q) $$ [Hg HO]
  · isplitl [Hg]; · iexact Hg
    isplitl [HO]; · iexact HO
    iexact Hmw
  iintro ⟨Hr, Hx, Hs, Hv, HO⟩
  rw [wp_pure]
  imodintro
  iapply HQ
  unfold freeI
  isplitl [Hi]; · iexact Hi
  isplitl [Hs Hiv]
  · isplitl [Hs]
    · iexists _; iexact Hs
    · iexact Hiv
  isplitl [Hr]; · iexact Hr
  isplitl [Hrv]; · iexact Hrv
  isplitl [Hx]; · iexact Hx
  isplitl [Hv]; · iexact Hv
  isplitl [HO]; · iexact HO
  iexact Hmw

set_option maxHeartbeats 16000000 in
/-- One trip takes the invariant to the next. -/
theorem trip_at (hfi : ∀ p, (fi p).toNat < 50001) (q : PosShare TreeShare) (O : CellTallies nD τ sig (HIx 1)) (W : Waits sig (HIx 1))
    (h1 : k0_cond1 L = 1#1) (v41 v45 : BitVec 32) (t : Fin (k0_t1_loop L).trips) (ht : t.val < cnt L) :
    held d L fx fi fg q O W t.val
      ⊢ wp frame (wpE (defs₀ (F := F)) 𝒱₀ (thr d L) none) Set.univ
          (bodyAt (F := F) L h1 v41 v45 t (c6 L t.val, c7 t.val, c7 t.val, c9 t.val, c10 L t.val)) (inv d L fx fi fg q O W (t.val + 1)) := by
  have hl := cnt_lt L
  have hb := base_cnt L
  have h7 : k0_cond7 L t (c10 L t.val) = 1#1 := by rw [c10_of_lt L ht]; exact cond7_eq L t ht
  unfold bodyAt k0_t1_body
  simp only [ite_self]
  rw [wp_bind]
  unfold inv held
  iintro H
  icases H with ⟨Hidone, Hcur, HfI, Hgdone, Hgtodo, Hprev, HfR, Hx, Hv4, HO, #Hmw⟩
  ihave Hcur := (Entails.of_eq (cur_lt (F := F) d L fi ht)) $$ Hcur
  icases Hcur with ⟨Hin, Hitodo⟩
  iapply (part1_step (F := F) d L fi t ht h1) $$ [Hitodo HfI]
  · isplitl [Hitodo]; · iexact Hitodo
    iexact HfI
  iintro Hcur
  beta_reduce
  rw [wp_bind]
  iapply (part2_step (F := F) d L fx fi hfi q O W t ht h1) $$ [Hin HfR Hx Hv4 HO]
  · isplitl [Hin]; · iexact Hin
    isplitl [HfR]; · iexact HfR
    isplitl [Hx]; · iexact Hx
    isplitl [Hv4]; · iexact Hv4
    isplitl [HO]; · iexact HO
    iexact Hmw
  iintro ⟨Hiblk, HfI, Hr, Hov, Hx, Hv4, HO, -⟩
  rw [dif_pos h7, wp_bind]
  ihave Hg' := (Entails.of_eq (show (gLoc d ↦[gRange (base L + t.val) (base L + cnt L)]{fullShare} fg : sProp 𝕄)
      = gLoc d ↦[gRange (base L + t.val) (base L + t.val + 1) ∪ gRange (base L + t.val + 1) (base L + cnt L)]{fullShare} fg by
        rw [← gRange_union (by omega) (by omega)])) $$ Hgtodo
  ihave Hg'' := (pointsTo_union (gRange_disjoint (by omega))).1 $$ Hg'
  icases Hg'' with ⟨Hgblk, Hgtodo⟩
  iapply (out_step (F := F) d L (mod2 t.val) (blk_lt L ht) (by unfold c7; rw [off12_eq (by omega)]) (by rw [c10_of_lt L ht, off13_eq L ht])
    (by unfold c7; rw [off14_eq (by omega)]) _ _ _ fx fi fg) $$ [Hr Hgblk Hov]
  · isplitl [Hr]; · iexact Hr
    isplitl [Hgblk]; · iexact Hgblk
    iexact Hov
  iintro Hout
  -- the blocks of indices read
  ihave Hidone' := (pointsTo_union (ℓ := iLoc d) (I := iRange (base L) (base L + t.val)) (J := iRange (base L + t.val) (base L + t.val + 1)) (iRange_disjoint (le_refl _))).2 $$ [Hidone Hiblk]
  · isplitl [Hidone]; · iexact Hidone
    iexact Hiblk
  have hfin : ∀ {r : BitVec 32 × BitVec 32 × BitVec 32 × BitVec 32 × BitVec 32}, r = (in6At L t.val,
      Scalar.select (Scalar.ori (Scalar.cmpi .ne (hereAt L t.val) (nextAt L t.val)) (Scalar.cmpi .eq (ivAt t.val) (Scalar.subi (Scalar.muli 1#32 (w5 L)) 1#32))) (Scalar.addi (c7 t.val) 1#32) (c7 t.val),
      Scalar.select (Scalar.andi (Scalar.ori (Scalar.cmpi .ne (hereAt L t.val) (nextAt L t.val)) (Scalar.cmpi .eq (ivAt t.val) (Scalar.subi (Scalar.muli 1#32 (w5 L)) 1#32))) 1#1) (Scalar.addi (c7 t.val) 1#32) (c7 t.val),
      Scalar.select (Scalar.andi (Scalar.andi (Scalar.cmpi .ne (hereAt L t.val) (prevAt L t.val)) (Scalar.xori (Scalar.cmpi .eq (ivAt t.val) 0#32) 1#1)) 1#1) (Scalar.addi (c9 t.val) 1#32) (c9 t.val),
      nxt (w5 L) (c10 L t.val)) → t.val + 1 ≤ cnt L ∧ r = (c6 L (t.val + 1), c7 (t.val + 1), c7 (t.val + 1), c9 (t.val + 1), c10 L (t.val + 1)) := by
    rintro r rfl
    refine ⟨ht, ?_⟩
    rw [next7 L ht, next8 L ht, next9 L ht, next10 L ht, show in6At L t.val = c6 L (t.val + 1) from next6 L ht]
  by_cases h0 : 0 < t.val
  · have h9 : k0_cond9 L t (c10 L t.val) = 1#1 := by rw [c10_of_lt L ht]; exact (cond9_eq L t ht).mpr h0
    rw [dif_pos h9, wp_bind]
    ihave Hprev := (Entails.of_eq (prev_pos (F := F) d L fx fi (t := t.val) ⟨h0, by omega⟩)) $$ Hprev
    iapply (waitOut_step (F := F) d L (mod2 (t.val - 1)) (blk_lt L (t := t.val - 1) (by omega)) (by rw [c10_of_lt L ht, off16_eq L h0 ht])
      (by unfold c9; rw [off17_eq (by omega)]) _ _ _ fx fi) $$ [Hprev HO]
    · isplitl [Hprev]; · iexact Hprev
      isplitl [HO]; · iexact HO
      iexact Hmw
    iintro ⟨Hgblk, Hr, Hov, HO⟩
    ihave Hgdone' := (pointsTo_union (ℓ := gLoc d) (I := gRange (base L) (base L + (t.val - 1))) (J := gRange (base L + (t.val - 1)) (base L + (t.val - 1) + 1)) (gRange_disjoint (le_refl _))).2 $$ [Hgdone Hgblk]
    · isplitl [Hgdone]; · iexact Hgdone
      iexact Hgblk
    rw [wp_pure]
    imodintro
    isplitr
    · ipureintro; exact hfin rfl
    isplitl [Hidone']
    · iapply (Entails.of_eq (show (iLoc d ↦[iRange (base L) (base L + t.val) ∪ iRange (base L + t.val) (base L + t.val + 1)]{fullShare} fi : sProp 𝕄)
        = iLoc d ↦[iRange (base L) (base L + (t.val + 1))]{fullShare} fi by rw [← iRange_union (by omega) (by omega)]; rfl)) $$ Hidone'
    isplitl [Hcur]; · iexact Hcur
    isplitl [HfI]
    · iapply (Entails.of_eq (freeI_congr (F := F) d L (show t.val % 2 = (t.val + 1 + 1) % 2 by omega))) $$ HfI
    isplitl [Hgdone']
    · iapply (Entails.of_eq (show (gLoc d ↦[gRange (base L) (base L + (t.val - 1)) ∪ gRange (base L + (t.val - 1)) (base L + (t.val - 1) + 1)]{fullShare} gVal fx fi : sProp 𝕄)
        = gLoc d ↦[gRange (base L) (base L + (t.val + 1 - 1))]{fullShare} gVal fx fi by
          rw [← gRange_union (by omega) (by omega), show base L + (t.val - 1) + 1 = base L + (t.val + 1 - 1) by omega])) $$ Hgdone'
    isplitl [Hgtodo]; · iexact Hgtodo
    isplitl [Hout]
    · rw [prev_pos (F := F) d L fx fi (t := t.val + 1) ⟨by omega, by omega⟩]
      iapply (Entails.of_eq (outFl_congr (F := F) d L fx fi (show t.val % 2 = (t.val + 1 - 1) % 2 by omega) (show base L + t.val = base L + (t.val + 1 - 1) by omega))) $$ Hout
    isplitl [Hr Hov]
    · iapply (Entails.of_eq (freeR_congr (F := F) d L (show (t.val - 1) % 2 = (t.val + 1) % 2 by omega)))
      unfold freeR
      isplitl [Hr]
      · iexists _; iexact Hr
      · iexact Hov
    isplitl [Hx]; · iexact Hx
    isplitl [Hv4]; · iexact Hv4
    isplitl [HO]; · iexact HO
    iexact Hmw
  · have h9 : ¬ k0_cond9 L t (c10 L t.val) = 1#1 := by rw [c10_of_lt L ht]; exact fun e => h0 ((cond9_eq L t ht).mp e)
    have e0 : t.val = 0 := by omega
    rw [dif_neg h9]
    rw [wp_pure]
    imodintro
    isplitr
    · ipureintro; exact hfin rfl
    isplitl [Hidone']
    · iapply (Entails.of_eq (show (iLoc d ↦[iRange (base L) (base L + t.val) ∪ iRange (base L + t.val) (base L + t.val + 1)]{fullShare} fi : sProp 𝕄)
        = iLoc d ↦[iRange (base L) (base L + (t.val + 1))]{fullShare} fi by rw [← iRange_union (by omega) (by omega)]; rfl)) $$ Hidone'
    isplitl [Hcur]; · iexact Hcur
    isplitl [HfI]
    · iapply (Entails.of_eq (freeI_congr (F := F) d L (show t.val % 2 = (t.val + 1 + 1) % 2 by omega))) $$ HfI
    isplitl [Hgdone]
    · iapply (Entails.of_eq (show (gLoc d ↦[gRange (base L) (base L + (t.val - 1))]{fullShare} gVal fx fi : sProp 𝕄)
        = gLoc d ↦[gRange (base L) (base L + (t.val + 1 - 1))]{fullShare} gVal fx fi by
          rw [show t.val - 1 = t.val + 1 - 1 by omega])) $$ Hgdone
    isplitl [Hgtodo]; · iexact Hgtodo
    isplitl [Hout]
    · rw [prev_pos (F := F) d L fx fi (t := t.val + 1) ⟨by omega, by omega⟩]
      iapply (Entails.of_eq (outFl_congr (F := F) d L fx fi (show t.val % 2 = (t.val + 1 - 1) % 2 by omega) (show base L + t.val = base L + (t.val + 1 - 1) by omega))) $$ Hout
    isplitl [Hprev]
    · iapply (Entails.of_eq (show (prev d L fx fi t.val : sProp 𝕄) = freeR d L ((t.val + 1) % 2) (mod2 _) from dif_neg (by omega))) $$ Hprev
    isplitl [Hx]; · iexact Hx
    isplitl [Hv4]; · iexact Hv4
    isplitl [HO]; · iexact HO
    iexact Hmw

/-- One trip takes the invariant to the next. -/
theorem trip (hfi : ∀ p, (fi p).toNat < 50001) (q : PosShare TreeShare) (O : CellTallies nD τ sig (HIx 1)) (W : Waits sig (HIx 1))
    (h1 : k0_cond1 L = 1#1) (v41 v45 : BitVec 32) (t : Fin (k0_t1_loop L).trips)
    (acc : BitVec 32 × BitVec 32 × BitVec 32 × BitVec 32 × BitVec 32) :
    inv d L fx fi fg q O W t.val acc
      ⊢ wp frame (wpE (defs₀ (F := F)) 𝒱₀ (thr d L) none) Set.univ (bodyAt (F := F) L h1 v41 v45 t acc) (inv d L fx fi fg q O W (t.val + 1)) := by
  refine (Entails.of_eq (show inv d L fx fi fg q O W t.val acc = iprop(⌜t.val ≤ cnt L ∧ acc = (c6 L t.val, c7 t.val, c7 t.val, c9 t.val, c10 L t.val)⌝
    ∗ held d L fx fi fg q O W t.val) from rfl)).trans ?_
  iintro ⟨%hacc, H⟩
  obtain ⟨-, rfl⟩ := hacc
  iapply (trip_at (F := F) d L fx fi fg hfi q O W h1 v41 v45 t (lt_of_lt_of_eq t.isLt (trips1 L))) $$ H

end

end Cert.Proof.Tile

end
-- ==== Proof.Body.lean ====
/-
  The whole run of one tile of the SparseCore gather: the first copy, the loop, the last wait; then the tile's memory and
  semaphores as it finds and leaves them, and the kernel's triple.
-/
module

public import proofs.«01_k».proof.Proof.Tile

@[expose] public section

noncomputable section

namespace Cert.Proof.Tile

open Cert.KernelIdeal Cert.KernelIdeal.Gen
open Cert.Proof.Words

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

section

variable (d : Dev nD) (L : grid0.Coords)
variable (fx : S50001x128.Idx → F .f32) (fi : S1x1354752.Idx → BitVec 32) (fg : S1354752x128.Idx → F .f32)

/-- The two slots at consecutive trips are the two slots. -/
theorem slots_I {a b : ℕ} (ha : a < 2) (hb : b < 2) (h : a ≠ b) : iprop(freeI d L a ha ∗ freeI d L b hb)
    ⊢ (iprop(freeI d L 0 (by omega) ∗ freeI d L 1 (by omega)) : sProp 𝕄) := by
  obtain ⟨rfl, rfl⟩ | ⟨rfl, rfl⟩ : (a = 0 ∧ b = 1) ∨ (a = 1 ∧ b = 0) := by omega
  · iintro H; iexact H
  · iintro ⟨H1, H0⟩
    isplitl [H0]; · iexact H0
    iexact H1
theorem slots_R {a b : ℕ} (ha : a < 2) (hb : b < 2) (h : a ≠ b) : iprop(freeR d L a ha ∗ freeR d L b hb)
    ⊢ (iprop(freeR d L 0 (by omega) ∗ freeR d L 1 (by omega)) : sProp 𝕄) := by
  obtain ⟨rfl, rfl⟩ | ⟨rfl, rfl⟩ : (a = 0 ∧ b = 1) ∨ (a = 1 ∧ b = 0) := by omega
  · iintro H; iexact H
  · iintro ⟨H1, H0⟩
    isplitl [H0]; · iexact H0
    iexact H1

/-- The first counter's start: one copy begun. -/
theorem first6 : Scalar.select (Scalar.andi 1#1 (Scalar.cmpi .sgt (Scalar.muli 1#32 (w5 L)) 0#32)) (Scalar.addi 0#32 1#32) 0#32 = c6 L 0 := by
  have h := cnt_pos L
  unfold c6
  rw [w5_eq, show min (0 + 1) (cnt L) = 1 by omega]
  rcases cnt_cases L with e | e <;> rw [e] <;> decide

variable [FloatOps F]

abbrev v45At : BitVec 32 := Scalar.muli (Scalar.divsi (Scalar.subi (Scalar.muli 1#32 (w5 L)) 0#32) 1#32) 1#32

set_option maxHeartbeats 8000000 in
/-- Before the loop: the copy of the tile's first index block is started. -/
theorem part5_step (h1 : k0_cond1 L = 1#1) {Q : _ → sProp 𝕄} :
    iprop((iLoc d ↦[iRange (base L) (base L + cnt L)]{fullShare} fi) ∗ freeI d L 0 (by omega))
      ⊢ iprop((cur d L fi 0 -∗ Q ⟨c6 L 0, 0#32, 0#32, 0#32, 0#32, 0#32, v45At L⟩)
          -∗ wp frame (wpE (defs₀ (F := F)) 𝒱₀ (thr d L) none) Set.univ
            (k0_part5 (F := F) L xV (Memref.isWhole_whole _) iV (Memref.isWhole_whole _) gV (Memref.isWhole_whole _)
              sV (Memref.isWhole_whole _) cc0_scoped1 rV (Memref.isWhole_whole _) cc0_scoped3 cc0_scoped4 cc0_scoped5
              (w5 L) (w10 L) (Scalar.muli 1#32 (w5 L)) h1) Q) := by
  have hl := cnt_lt L
  have hp := cnt_pos L
  have hb := base_cnt L
  rw [k0_part5_eq_skeleton]; unfold k0_part5_skel
  simp only [first6]
  iintro ⟨Hi, Hf⟩ HQ
  rw [dif_pos (cond2_eq L), wp_bind]
  unfold freeI
  icases Hf with ⟨⟨%f, Hs⟩, Hv⟩
  ihave Hi' := (Entails.of_eq (show (iLoc d ↦[iRange (base L) (base L + cnt L)]{fullShare} fi : sProp 𝕄)
    = iLoc d ↦[iRange (base L + 0) (base L + 0 + 1) ∪ iRange (base L + (0 + 1)) (base L + cnt L)]{fullShare} fi by
      rw [show base L + 0 + 1 = base L + (0 + 1) by omega, ← iRange_union (by omega) (by omega)]; rfl)) $$ Hi
  ihave Hi'' := (pointsTo_union (iRange_disjoint (by omega))).1 $$ Hi'
  icases Hi'' with ⟨Hb, Hrest⟩
  iapply (fetch_step (F := F) d L (mod2 0) (blk_lt L hp) off1_eq (off2_eq L) off3_eq _ _ _ fi f) $$ [Hb Hs Hv]
  · isplitl [Hb]; · iexact Hb
    isplitl [Hs]; · iexact Hs
    iexact Hv
  iintro Hfl
  rw [wp_pure]
  imodintro
  iapply HQ
  rw [cur_lt (F := F) d L fi hp]
  isplitl [Hfl]; · iexact Hfl
  iexact Hrest

set_option maxHeartbeats 8000000 in
/-- The loop, and the wait for the last block's copy out. -/
theorem part6_step (hfi : ∀ p, (fi p).toNat < 50001) (q : PosShare TreeShare) (O : CellTallies nD τ sig (HIx 1)) (W : Waits sig (HIx 1))
    (h1 : k0_cond1 L = 1#1) (v41 v45 : BitVec 32) (e41 : v41 = c6 L 0) {Q : PUnit → sProp 𝕄} :
    held d L fx fi fg q O W 0
      ⊢ iprop((((iLoc d ↦[iRange (base L) (base L + cnt L)]{fullShare} fi) ∗ (gLoc d ↦[gRange (base L) (base L + cnt L)]{fullShare} gVal fx fi)
            ∗ (xLoc d ↦{q} fx) ∗ (freeI d L 0 (by omega) ∗ freeI d L 1 (by omega)) ∗ (freeR d L 0 (by omega) ∗ freeR d L 1 (by omega))
            ∗ semVal (thr d L, .dma cc0_scoped4.sem) 0 ∗ owed d L O W) -∗ Q ⟨⟩)
          -∗ wp frame (wpE (defs₀ (F := F)) 𝒱₀ (thr d L) none) Set.univ
            (k0_part6 (F := F) L xV (Memref.isWhole_whole _) iV (Memref.isWhole_whole _) gV (Memref.isWhole_whole _)
              sV (Memref.isWhole_whole _) cc0_scoped1 rV (Memref.isWhole_whole _) cc0_scoped3 cc0_scoped4 cc0_scoped5
              (w5 L) (w10 L) (Scalar.muli 1#32 (w5 L)) h1 v41 0#32 0#32 0#32 0#32 0#32 v45) Q) := by
  have hl := cnt_lt L
  have hp := cnt_pos L
  have hb := base_cnt L
  rw [k0_part6_eq_skeleton]; unfold k0_part6_skel
  simp only [dite_eq_ite, ite_self]
  iintro H HQ
  iapply (Scf.wp_for_bind frame (wpE (defs₀ (F := F)) 𝒱₀ (thr d L) none) Set.univ _ _ _ _ _ _ (inv d L fx fi fg q O W)
    (trip (F := F) d L fx fi fg hfi q O W h1 v41 v45)) $$ [H]
  · unfold inv
    isplitr
    · ipureintro
      refine ⟨by omega, ?_⟩
      rw [e41, show c10 L 0 = 0#32 from by rw [c10_of_lt L hp]]
      rfl
    · iexact H
  iintro %acc HI
  ihave HI := (Entails.of_eq (show inv d L fx fi fg q O W (k0_t1_loop L).trips acc = iprop(⌜cnt L ≤ cnt L ∧ acc = (c6 L (cnt L), c7 (cnt L), c7 (cnt L), c9 (cnt L), c10 L (cnt L))⌝
    ∗ held d L fx fi fg q O W (cnt L)) from by rw [trips1]; rfl)) $$ HI
  icases HI with ⟨%hacc, H⟩
  obtain ⟨-, rfl⟩ := hacc
  beta_reduce
  iapply (Scf.wp_for_bind frame (wpE (defs₀ (F := F)) 𝒱₀ (thr d L) none) Set.univ _ _ _ _ _ _
    (fun _ acc => iprop(⌜acc = (c6 L (cnt L), c7 (cnt L), c7 (cnt L), c9 (cnt L), c10 L (cnt L))⌝))
    (fun k _ => absurd (lt_of_lt_of_eq k.isLt (trips2 L)) (Nat.not_lt_zero _)))
  · ipureintro; rfl
  iintro %acc %hacc
  subst hacc
  beta_reduce
  rw [wp_bind]
  iapply (wp_assume 𝒱₀ (thr d L) none Set.univ (chk8_at L))
  rw [wp_ret]; imodintro
  rw [wp_bind]
  iapply (wp_assume 𝒱₀ (thr d L) none Set.univ (chk7_at L))
  rw [wp_ret]; imodintro
  rw [dif_pos (cond18_eq L), wp_bind]
  ihave H := (Entails.of_eq (show held d L fx fi fg q O W (cnt L) = iprop((iLoc d ↦[iRange (base L) (base L + cnt L)]{fullShare} fi) ∗ freeI d L (cnt L % 2) (mod2 _)
    ∗ freeI d L ((cnt L + 1) % 2) (mod2 _)
    ∗ (gLoc d ↦[gRange (base L) (base L + (cnt L - 1))]{fullShare} gVal fx fi) ∗ (gLoc d ↦[gRange (base L + cnt L) (base L + cnt L)]{fullShare} fg)
    ∗ outFl d L fx fi ((cnt L - 1) % 2) (mod2 _) (base L + (cnt L - 1)) (blk_lt L (by omega)) ∗ freeR d L (cnt L % 2) (mod2 _)
    ∗ (xLoc d ↦{q} fx) ∗ semVal (thr d L, .dma cc0_scoped4.sem) 0 ∗ owed d L O W ∗ Transfers.MayWaits (thr d L) (default : HIx 1) O)
    by unfold held; rw [cur_end (F := F) d L fi (by omega), prev_pos (F := F) d L fx fi ⟨hp, le_refl _⟩])) $$ H
  icases H with ⟨Hi, HfI, HfI', Hgdone, -, Hout, HfR, Hx, Hv4, HO, Hmw⟩
  iapply (waitOut_step (F := F) d L (mod2 (cnt L - 1)) (blk_lt L (t := cnt L - 1) (by omega))
      (by unfold c10; rw [if_pos rfl, off33_eq L]) (by unfold c9; rw [off34_eq (by omega)]) _ _ _ fx fi) $$ [Hout HO Hmw]
  · isplitl [Hout]; · iexact Hout
    isplitl [HO]; · iexact HO
    iexact Hmw
  iintro ⟨Hgblk, Hr, Hov, HO⟩
  ihave Hg := (pointsTo_union (ℓ := gLoc d) (I := gRange (base L) (base L + (cnt L - 1))) (J := gRange (base L + (cnt L - 1)) (base L + (cnt L - 1) + 1)) (gRange_disjoint (le_refl _))).2 $$ [Hgdone Hgblk]
  · isplitl [Hgdone]; · iexact Hgdone
    iexact Hgblk
  rw [wp_pure]
  imodintro
  iapply HQ
  isplitl [Hi]; · iexact Hi
  isplitl [Hg]
  · iapply (Entails.of_eq (show (gLoc d ↦[gRange (base L) (base L + (cnt L - 1)) ∪ gRange (base L + (cnt L - 1)) (base L + (cnt L - 1) + 1)]{fullShare} gVal fx fi : sProp 𝕄)
        = gLoc d ↦[gRange (base L) (base L + cnt L)]{fullShare} gVal fx fi by
          rw [← gRange_union (by omega) (by omega), show base L + (cnt L - 1) + 1 = base L + cnt L by omega])) $$ Hg
  isplitl [Hx]; · iexact Hx
  isplitl [HfI HfI']
  · iapply (slots_I (F := F) d L (mod2 (cnt L)) (mod2 (cnt L + 1)) (by omega))
    isplitl [HfI]; · iexact HfI
    iexact HfI'
  isplitl [HfR Hr Hov]
  · iapply (slots_R (F := F) d L (mod2 (cnt L)) (mod2 (cnt L - 1)) (by omega))
    isplitl [HfR]; · iexact HfR
    unfold freeR
    isplitl [Hr]
    · iexists _; iexact Hr
    · iexact Hov
  isplitl [Hv4]; · iexact Hv4
  iexact HO

/-! ## The tile's memory and semaphores -/

abbrev cell (s : SemLoc sig) : GSem nD τ sig := (thr d L, s)
abbrev sI0 : SemLoc sig := .dma (inSem 0 (by omega))
abbrev sI1 : SemLoc sig := .dma (inSem 1 (by omega))
abbrev sO0 : SemLoc sig := .dma (outSem 0 (by omega))
abbrev sO1 : SemLoc sig := .dma (outSem 1 (by omega))
abbrev sGa : SemLoc sig := .dma cc0_scoped4.sem

omit [FloatOps F] in
theorem cell_ne {s s' : SemLoc sig} (h : s ≠ s') : cell d L s ≠ cell d L s' := fun e => h (congrArg Prod.snd e)
omit [FloatOps F] in
theorem cell_own {s : SemLoc sig} (h : s.isScoped .scVector = true) : cell d L s ∈ ownCells (thr d L) := (mem_ownCells (g := cell d L s)).mpr ⟨rfl, h⟩

omit [FloatOps F] in
theorem ownSems0_V :
    (ownSems0 (thr d L) : sProp 𝕄)
      = iprop(semVal (cell d L sI0) 0 ∗ semVal (cell d L sI1) 0 ∗ semVal (cell d L sO0) 0 ∗ semVal (cell d L sO1) 0 ∗ semVal (cell d L sGa) 0
          ∗ bigSep ((((((ownCells (thr d L)).erase (cell d L sI0)).erase (cell d L sI1)).erase (cell d L sO0)).erase (cell d L sO1)).erase (cell d L sGa)) fun g => semVal g 0) := by
  unfold SparseCore.Cfg.ownSems0
  have e := fun (s s' : SemLoc sig) (h : s ≠ s') => cell_ne d L h
  rw [SparseCore.bigSep_erase' (cell_own d L (s := sI0) (by decide)),
    SparseCore.bigSep_erase' (Finset.mem_erase.mpr ⟨e sI1 sI0 (by decide), cell_own d L (by decide)⟩),
    SparseCore.bigSep_erase' (Finset.mem_erase.mpr ⟨e sO0 sI1 (by decide), Finset.mem_erase.mpr ⟨e sO0 sI0 (by decide), cell_own d L (by decide)⟩⟩),
    SparseCore.bigSep_erase' (Finset.mem_erase.mpr ⟨e sO1 sO0 (by decide), Finset.mem_erase.mpr ⟨e sO1 sI1 (by decide),
      Finset.mem_erase.mpr ⟨e sO1 sI0 (by decide), cell_own d L (by decide)⟩⟩⟩),
    SparseCore.bigSep_erase' (Finset.mem_erase.mpr ⟨e sGa sO1 (by decide), Finset.mem_erase.mpr ⟨e sGa sO0 (by decide),
      Finset.mem_erase.mpr ⟨e sGa sI1 (by decide), Finset.mem_erase.mpr ⟨e sGa sI0 (by decide), cell_own d L (by decide)⟩⟩⟩⟩)]

omit [FloatOps F] in
theorem ownBufs_V :
    (ownBufs (thr d L) : sProp 𝕄)
      = iprop((∃ f, (thr d L).loc cc0_scoped0 ↦{fullShare} f) ∗ (∃ f, (thr d L).loc cc0_scoped2 ↦{fullShare} f)
          ∗ bigSep (((ownRefs (τ := τ) (.scVector (cV L) (jV L))).erase ((Proc.scVector (cV L) (jV L)).devRef cc0_scoped0)).erase
              ((Proc.scVector (cV L) (jV L)).devRef cc0_scoped2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scoped0) rfl)).trans ?_
  rw [SparseCore.bigSep_erase' (Finset.mem_erase.mpr ⟨fun e => absurd (Proc.devRef_injective _ e) (show (cc0_scoped2 : Ref sig .scVector) ≠ cc0_scoped0 by decide),
    SparseCore.Cfg.mem_ownRefs_of_owner (p := Proc.scVector (cV L) (jV L)) (b := (Proc.scVector (cV L) (jV L)).devRef cc0_scoped2) rfl⟩)]

omit [FloatOps F] in
/-- The index buffer is its two slots, and so is the row buffer; whatever is in the slots is one buffer's contents. -/
theorem split_I (f : S2x1x128.Idx → BitVec 32) : ((thr d L).loc cc0_scoped0 ↦{fullShare} f : sProp 𝕄) ⊢ iprop(slotI d L 0 (by omega) f ∗ slotI d L 1 (by omega) f) :=
  (Entails.of_eq (show ((thr d L).loc cc0_scoped0 ↦{fullShare} f : sProp 𝕄) = (thr d L).loc cc0_scoped0 ↦[sSet 0 (by omega) ∪ sSet 1 (by omega)]{fullShare} f by
    rw [sSlot_union])).trans (pointsTo_union sSlot_disjoint).1
omit [FloatOps F] in
theorem split_R (f : S2x128x128.Idx → F .f32) : ((thr d L).loc cc0_scoped2 ↦{fullShare} f : sProp 𝕄) ⊢ iprop(slotR d L 0 (by omega) f ∗ slotR d L 1 (by omega) f) :=
  (Entails.of_eq (show ((thr d L).loc cc0_scoped2 ↦{fullShare} f : sProp 𝕄) = (thr d L).loc cc0_scoped2 ↦[rSet 0 (by omega) ∪ rSet 1 (by omega)]{fullShare} f by
    rw [rSlot_union])).trans (pointsTo_union rSlot_disjoint).1
omit [FloatOps F] in
theorem join_I (f g : S2x1x128.Idx → BitVec 32) : iprop(slotI d L 0 (by omega) f ∗ slotI d L 1 (by omega) g) ⊢ (iprop(∃ h, (thr d L).loc cc0_scoped0 ↦{fullShare} h) : sProp 𝕄) := by
  iintro ⟨H0, H1⟩
  ihave H := (pointsTo_join (ℓ := (thr d L).loc cc0_scoped0) (f := f) (g := g) sSlot_disjoint) $$ [H0 H1]
  · isplitl [H0]; · iexact H0
    iexact H1
  iexists _
  iapply (Entails.of_eq (show ((thr d L).loc cc0_scoped0 ↦[sSet 0 Nat.zero_lt_two ∪ sSet 1 Nat.one_lt_two]{fullShare} _ : sProp 𝕄) = ((thr d L).loc cc0_scoped0 ↦{fullShare} _) by rw [sSlot_union])) $$ H
omit [FloatOps F] in
theorem join_R (f g : S2x128x128.Idx → F .f32) : iprop(slotR d L 0 (by omega) f ∗ slotR d L 1 (by omega) g) ⊢ (iprop(∃ h, (thr d L).loc cc0_scoped2 ↦{fullShare} h) : sProp 𝕄) := by
  iintro ⟨H0, H1⟩
  ihave H := (pointsTo_join (ℓ := (thr d L).loc cc0_scoped2) (f := f) (g := g) rSlot_disjoint) $$ [H0 H1]
  · isplitl [H0]; · iexact H0
    iexact H1
  iexists _
  iapply (Entails.of_eq (show ((thr d L).loc cc0_scoped2 ↦[rSet 0 Nat.zero_lt_two ∪ rSet 1 Nat.one_lt_two]{fullShare} _ : sProp 𝕄) = ((thr d L).loc cc0_scoped2 ↦{fullShare} _) by rw [rSlot_union])) $$ H

/-! ## The kernel on a tile -/

/-- What a tile is handed: a share of the padded rows, its blocks of the index list, its blocks of the result; -/
def goes (q : PosShare TreeShare) : sProp 𝕄 :=
  iprop((xLoc d ↦{q} fx) ∗ (iLoc d ↦[iRange (base L) (base L + cnt L)]{fullShare} fi) ∗ gLoc d ↦[gRange (base L) (base L + cnt L)]{fullShare} fg)

/-- From a tile's share of the rows, its blocks of the list and of the result, and its own buffers and semaphores,
    `prog` runs on it and gives them back with its blocks of the result gathered. -/
def Runs (q : PosShare TreeShare) (O : CellTallies nD τ sig (HIx 1)) (W : Waits sig (HIx 1))
    (prog : Prog (TpuEff nD τ sig (Elt F) Λ₀ (Proc.scVector (cV L) (jV L))) PUnit) : Prop :=
  iprop(levAts (K (F := F)).L (K (F := F)).lev ∗ emp ∗ goes d L fx fi fg q
      ∗ scopedBufs (thr d L) ∗ scopedSems0 (thr d L) ∗ owes (thr d L) O W)
    ⊢ wp frame (wpE (defs₀ (F := F)) 𝒱₀ (thr d L) none) Set.univ prog
        fun _ => iprop(goes d L fx fi (gVal fx fi) q ∗ scopedBufs (thr d L) ∗ scopedSems0 (thr d L)
          ∗ ∃ W', ⌜∀ p ∈ W', p ∈ W ∨ p.2 = none⌝ ∗ owes (thr d L) O W')

set_option maxHeartbeats 8000000 in
/-- The kernel runs on a tile, the list's words being below 50001. -/
theorem tile_body (hfi : ∀ p, (fi p).toNat < 50001) (q : PosShare TreeShare) (hF : (K (F := F)).Facts) (O : CellTallies nD τ sig (HIx 1)) (W : Waits sig (HIx 1))
    (hO : ∀ g, O g none = 0) :
    Runs d L fx fi fg q O W
      (cc0_gather_kernel (F := F) L xV (Memref.isWhole_whole _) iV (Memref.isWhole_whole _) gV (Memref.isWhole_whole _)
        sV (Memref.isWhole_whole _) cc0_scoped1 rV (Memref.isWhole_whole _) cc0_scoped3 cc0_scoped4 cc0_scoped5) := by
  unfold Runs
  have hl := cnt_lt L
  have hp := cnt_pos L
  have hb := base_cnt L
  rw [cc0_gather_kernel_eq_skeleton]; unfold cc0_gather_kernel_skel goes
  rw [(K (F := F)).scopedBufs_V hF d (cV L) (jV L), SparseCore.Cfg.scopedSems0_V (Val := Elt F) d (cV L) (jV L), ownSems0_V, ownBufs_V]
  iintro ⟨#Hlv, -, ⟨Hx, Hi, Hg⟩, ⟨⟨%fs, Hs⟩, ⟨%fr, Hr⟩, Hbufs⟩, ⟨Hv0, Hv1, Hw0, Hw1, Hv4, Hsems⟩, HO⟩
  ihave Hmw := (show levAts (K (F := F)).L (K (F := F)).lev ⊢ Transfers.MayWaits (thr d L) (default : HIx 1) O from
    (K (F := F)).mayWaits_none (thr := thr d L) hO) $$ Hlv
  ihave Hs' := (split_I (F := F) d L fs) $$ Hs
  icases Hs' with ⟨Hs0, Hs1⟩
  ihave Hr' := (split_R (F := F) d L fr) $$ Hr
  icases Hr' with ⟨Hr0, Hr1⟩
  rw [dif_pos (cond1_eq L), wp_bind]
  iapply (part5_step (F := F) d L fi (cond1_eq L)) $$ [Hi Hs0 Hv0]
  · isplitl [Hi]; · iexact Hi
    unfold freeI
    isplitl [Hs0]
    · iexists _; iexact Hs0
    · iexact Hv0
  iintro Hcur
  beta_reduce
  rw [wp_bind]
  iapply (part6_step (F := F) d L fx fi fg hfi q O W (cond1_eq L) _ _ rfl) $$ [Hcur Hs1 Hv1 Hg Hr0 Hr1 Hw0 Hw1 Hx Hv4 HO Hmw]
  · unfold held
    rw [iRange_empty (a := base L) (b := base L + 0) (by omega), gRange_empty (a := base L) (b := base L + (0 - 1)) (by omega)]
    isplitr
    · rw [pointsTo_empty]; iempintro
    isplitl [Hcur]; · iexact Hcur
    isplitl [Hs1 Hv1]
    · unfold freeI
      isplitl [Hs1]
      · iexists _; iexact Hs1
      · iexact Hv1
    isplitr
    · rw [pointsTo_empty]; iempintro
    isplitl [Hg]; · iexact Hg
    isplitl [Hr1 Hw1]
    · rw [prev_zero]
      unfold freeR
      isplitl [Hr1]
      · iexists _; iexact Hr1
      · iexact Hw1
    isplitl [Hr0 Hw0]
    · unfold freeR
      isplitl [Hr0]
      · iexists _; iexact Hr0
      · iexact Hw0
    isplitl [Hx]; · iexact Hx
    isplitl [Hv4]; · iexact Hv4
    isplitl [HO]
    · unfold owed
      iexists W
      isplitr
      · ipureintro; exact fun p hp => .inl hp
      · iexact HO
    iexact Hmw
  iintro ⟨Hi, Hg, Hx, ⟨HI0, HI1⟩, ⟨HR0, HR1⟩, Hv4, HO⟩
  rw [wp_pure]
  imodintro
  unfold freeI freeR owed
  icases HI0 with ⟨⟨%f0, Hs0⟩, Hv0⟩
  icases HI1 with ⟨⟨%f1, Hs1⟩, Hv1⟩
  icases HR0 with ⟨⟨%g0, Hr0⟩, Hw0⟩
  icases HR1 with ⟨⟨%g1, Hr1⟩, Hw1⟩
  isplitl [Hi Hg Hx]
  · isplitl [Hx]; · iexact Hx
    isplitl [Hi]; · iexact Hi
    iexact Hg
  isplitl [Hs0 Hs1 Hr0 Hr1 Hbufs]
  · isplitl [Hs0 Hs1]
    · iapply (join_I (F := F) d L f0 f1)
      isplitl [Hs0]; · iexact Hs0
      iexact Hs1
    isplitl [Hr0 Hr1]
    · iapply (join_R (F := F) d L g0 g1)
      isplitl [Hr0]; · iexact Hr0
      iexact Hr1
    iexact Hbufs
  isplitl [Hv0 Hv1 Hw0 Hw1 Hv4 Hsems]
  · isplitl [Hv0]; · iexact Hv0
    isplitl [Hv1]; · iexact Hv1
    isplitl [Hw0]; · iexact Hw0
    isplitl [Hw1]; · iexact Hw1
    isplitl [Hv4]; · iexact Hv4
    iexact Hsems
  iexact HO

end

end Cert.Proof.Tile

end
-- ==== Proof.Launch.lean ====
/-
  The call of the SparseCore kernel: what it hands each of the 32 tiles, the tiles' obligation, and the call's three
  buffers cut into what the tiles are handed and put together again.
-/
module

public import proofs.«01_k».proof.Proof.Body
public import Idealize.ShloMosaic.Lib.ShareLeaves

@[expose] public section

noncomputable section

namespace Cert.Proof.Tile

open Cert.KernelIdeal Cert.KernelIdeal.Gen
open Cert.Proof.Words

open Idealize.ShloMosaic Idealize.ShloMosaic.ValueIdx
open Idealize.ShloMosaic.SparseCore (S V T)
open Idealize.ShloMosaic.SparseCore.Cfg (HIx Pay tileRest ownBufs ownSems0 ownCells ownRefs mem_ownCells mem_ownRefs)
open Idealize.ShloMosaic.ShareLeaves
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-- A tile's coordinates from its SparseCore's number and its own. -/
def at2 (c : Fin 2) (s : Fin 16) : grid0.Coords :=
  fun | 0 => c | 1 => s | ⟨_ + 2, h⟩ => absurd h (Nat.not_lt.2 (Nat.le_add_left _ _))

theorem tile_at2 (c : Fin 2) (s : Fin 16) : tile (at2 c s) = s.val + 16 * c.val := rfl

/-- The tiles in one row of 32: the first SparseCore's, then the second's. -/
def row32 : Fin 2 × Fin 16 ≃ Fin (2 ^ 5) where
  toFun p := ⟨p.2.val + 16 * p.1.val, by omega⟩
  invFun t := (⟨t.val / 16, by omega⟩, ⟨t.val % 16, by omega⟩)
  left_inv p := Prod.ext (Fin.ext (show (p.2.val + 16 * p.1.val) / 16 = p.1.val by omega)) (Fin.ext (show (p.2.val + 16 * p.1.val) % 16 = p.2.val by omega))
  right_inv t := Fin.ext (show t.val % 16 + 16 * (t.val / 16) = t.val by omega)

/-- A tile's share of the padded rows: one of 32. -/
def xq (c : Fin 2) (s : Fin 16) : PosShare TreeShare := leaf 5 fullShare (row32 (c, s))

variable (fx : Dev nD → S50001x128.Idx → F .f32) (fi : Dev nD → S1x1354752.Idx → BitVec 32) (fg : Dev nD → S1354752x128.Idx → F .f32)

/-- What the tile's call is handed, with the result at `g`. -/
abbrev tgo (g : Dev nD → S1354752x128.Idx → F .f32) (d : Dev nD) (c : Fin 2) (s : Fin 16) : sProp 𝕄 :=
  goes (F := F) d (at2 c s) (fx d) (fi d) (g d) (xq c s)

instance goes_storable (d : Dev nD) (L : grid0.Coords) (x : S50001x128.Idx → F .f32) (y : S1x1354752.Idx → BitVec 32) (z : S1354752x128.Idx → F .f32) (q : PosShare TreeShare) :
    BI.Storable (upEmb : UEmb _ 𝕄) (goes (F := F) d L x y z q) := by unfold goes; infer_instance

/-- The gathered rows, per device. -/
abbrev gV' (d : Dev nD) : S1354752x128.Idx → F .f32 := gVal (fx d) (fi d)

/-- The call takes what its tiles are handed and returns what they return; a tile is handed its share of the padded
    rows, its blocks of the list and of the result, and returns them, the result's blocks gathered. -/
def P : (K (F := F)).Pay (nD := nD) (Val := Elt F) (Name := ℕ) (U := UU) where
  st := fun q d c => match q with | 0 => bigSep Finset.univ fun s : Fin 16 => tgo fx fi fg d (Fin.cast nCore_zero c) s
  dn := fun q d c => match q with | 0 => bigSep Finset.univ fun s : Fin 16 => tgo fx fi (gV' fx fi) d (Fin.cast nCore_zero c) s
  go := fun q d c i => match q with | 0 => tgo fx fi fg d (Fin.cast nCore_zero c) (Fin.cast nSub_zero i)
  td := fun q d c i => match q with | 0 => tgo fx fi (gV' fx fi) d (Fin.cast nCore_zero c) (Fin.cast nSub_zero i)
  x := fun _ _ => iprop(emp)

instance P_storable : (P (F := F) fx fi fg).IsStorable where
  st q d c := match q with
    | 0 => (inferInstance : BI.Storable (upEmb : UEmb _ 𝕄) (bigSep Finset.univ fun s : Fin 16 => tgo fx fi fg d (Fin.cast nCore_zero c) s))
  dn q d c := match q with
    | 0 => (inferInstance : BI.Storable (upEmb : UEmb _ 𝕄) (bigSep Finset.univ fun s : Fin 16 => tgo fx fi (gV' fx fi) d (Fin.cast nCore_zero c) s))
  go q d c i := match q with
    | 0 => (inferInstance : BI.Storable (upEmb : UEmb _ 𝕄) (tgo fx fi fg d (Fin.cast nCore_zero c) (Fin.cast nSub_zero i)))
  td q d c i := match q with
    | 0 => (inferInstance : BI.Storable (upEmb : UEmb _ 𝕄) (tgo fx fi (gV' fx fi) d (Fin.cast nCore_zero c) (Fin.cast nSub_zero i)))

/-! ## The tiles' obligation -/

theorem defs₀_vector [FloatOps F] (c : Fin τ.nSC) (s : Fin τ.nSub) :
    defs₀ (F := F) (.scVector c s) 0 ()
      = SparseCore.onTile hcore0 hsub0 (fun c s => cc0_gather_kernel (F := F) (at2 c s) xV (Memref.isWhole_whole _) iV (Memref.isWhole_whole _) gV (Memref.isWhole_whole _)
            sV (Memref.isWhole_whole _) cc0_scoped1 rV (Memref.isWhole_whole _) cc0_scoped3 cc0_scoped4 cc0_scoped5) ⟨⟩ c s := rfl

theorem at2_eta (L : grid0.Coords) : at2 ⟨(L 0).val, (L 0).isLt⟩ ⟨(L 1).val, (L 1).isLt⟩ = L := by
  funext a
  match a with
  | 0 => rfl
  | 1 => rfl

theorem kernel_congr [FloatOps F] (M L : grid0.Coords) (h : M = L) :
    HEq (cc0_gather_kernel (F := F) M xV (Memref.isWhole_whole _) iV (Memref.isWhole_whole _) gV (Memref.isWhole_whole _)
            sV (Memref.isWhole_whole _) cc0_scoped1 rV (Memref.isWhole_whole _) cc0_scoped3 cc0_scoped4 cc0_scoped5)
      (cc0_gather_kernel (F := F) L xV (Memref.isWhole_whole _) iV (Memref.isWhole_whole _) gV (Memref.isWhole_whole _)
            sV (Memref.isWhole_whole _) cc0_scoped1 rV (Memref.isWhole_whole _) cc0_scoped3 cc0_scoped4 cc0_scoped5) := by
  subst h; rfl

set_option maxRecDepth 16384 in
/-- The tile at `L` runs the kernel at `L`. -/
theorem defs₀_at [FloatOps F] (L : grid0.Coords) :
    defs₀ (F := F) (.scVector (cV L) (jV L)) 0 ()
      = cc0_gather_kernel (F := F) L xV (Memref.isWhole_whole _) iV (Memref.isWhole_whole _) gV (Memref.isWhole_whole _)
            sV (Memref.isWhole_whole _) cc0_scoped1 rV (Memref.isWhole_whole _) cc0_scoped3 cc0_scoped4 cc0_scoped5 := by
  rw [defs₀_vector]
  refine (dif_pos (show (cV L).val < grid0.bound 0 ∧ (jV L).val < grid0.bound 1 from ⟨(L 0).isLt, (L 1).isLt⟩)).trans ?_
  exact eq_of_heq (kernel_congr _ _ (at2_eta L))

attribute [local irreducible] cc0_gather_kernel

/-- A program's run on a tile, its waits as the call's protocol bounds them. -/
theorem runs_use [FloatOps F] (d : Dev nD) (L : grid0.Coords) (q : PosShare TreeShare) (O : CellTallies nD τ sig (HIx 1)) (W : Waits sig (HIx 1))
    (prog : Prog (TpuEff nD τ sig (Elt F) Λ₀ (Proc.scVector (cV L) (jV L))) PUnit) (h : Runs (F := F) d L (fx d) (fi d) (fg d) q O W prog) :
    iprop(levAts (K (F := F)).L (K (F := F)).lev ∗ emp ∗ goes (F := F) d L (fx d) (fi d) (fg d) q ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ prog
          fun _ => iprop(goes (F := F) d L (fx d) (fi d) (gV' fx fi d) q ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  unfold Runs at h
  refine BI.Entails.trans h (wp_mono frame _ _ fun _ => ?_)
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- The tile's run, its waits as the call's protocol bounds them. -/
theorem tile_run [FloatOps F] (hfi : ∀ d p, (fi d p).toNat < 50001) (d : Dev nD) (L : grid0.Coords) (C : Fin τ.nSC) (J : Fin τ.nSub) (hC : C = cV L) (hJ : J = jV L)
    (q : PosShare TreeShare) (O : CellTallies nD τ sig (HIx 1)) (W : Waits sig (HIx 1)) (hO : ∀ g, O g none = 0) :
    iprop(levAts (K (F := F)).L (K (F := F)).lev ∗ emp ∗ goes (F := F) d L (fx d) (fi d) (fg d) q ∗ scopedBufs (V d C J) ∗ scopedSems0 (V d C J) ∗ owes (V d C J) O W)
      ⊢ wp frame (wpE (defs₀ (F := F)) 𝒱₀ (V d C J) none) Set.univ (defs₀ (F := F) (.scVector C J) 0 ())
          fun _ => iprop(goes (F := F) d L (fx d) (fi d) (gV' fx fi d) q ∗ scopedBufs (V d C J) ∗ scopedSems0 (V d C J)
            ∗ ∃ W', ⌜∀ p ∈ W', p ∈ W ∨ p.2 = none ∨ p.2 = some (0 : Fin 1)⌝ ∗ owes (V d C J) O W') := by
  subst hC hJ
  refine runs_use fx fi fg d L q O W _ ?_
  rw [defs₀_at L]
  exact @tile_body F d L (fx d) (fi d) (fg d) _ (hfi d) q facts O W hO

set_option maxRecDepth 16384 in
/-- Every tile runs the kernel from what it is handed to what it returns, the list's words being below 50001. -/
theorem tileObl [FloatOps F] (hfi : ∀ d p, (fi d p).toNat < 50001) : (K (F := F)).TileObl (D (F := F)) 𝒱 (P fx fi fg) v₀ 0 := by
  intro d c i O W hO _ _
  simp only [show (P (F := F) fx fi fg).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  exact @tile_run F fx fi fg _ hfi d (at2 (Fin.cast nCore_zero c) (Fin.cast nSub_zero i)) ((K (F := F)).core 0 c) ((K (F := F)).sub 0 i) (Fin.ext rfl) (Fin.ext rfl)
    (xq (Fin.cast nCore_zero c) (Fin.cast nSub_zero i)) O W hO

theorem vecSplit : (K (F := F)).VecSplit' (P fx fi fg) 0 := by
  intro d c
  show (bigSep Finset.univ fun s : Fin 16 => tgo fx fi fg d (Fin.cast nCore_zero c) s) ⊢ |={Set.univ}=> iprop(
      (bigSep Finset.univ fun i : Fin ((K (F := F)).nSub 0) => tgo fx fi fg d (Fin.cast nCore_zero c) (Fin.cast nSub_zero i))
      ∗ ((bigSep Finset.univ fun i : Fin ((K (F := F)).nSub 0) => tgo fx fi (gV' fx fi) d (Fin.cast nCore_zero c) (Fin.cast nSub_zero i))
          -∗ bigSep Finset.univ fun s : Fin 16 => tgo fx fi (gV' fx fi) d (Fin.cast nCore_zero c) s))
  have e (Φ : Fin 16 → sProp 𝕄) : (bigSep Finset.univ fun i : Fin ((K (F := F)).nSub 0) => Φ (Fin.cast nSub_zero i)) = bigSep Finset.univ Φ :=
    bigSep_congr fun _ _ => congrArg Φ (Fin.ext rfl)
  rw [e (tgo fx fi fg d (Fin.cast nCore_zero c)), e (tgo fx fi (gV' fx fi) d (Fin.cast nCore_zero c))]
  iintro H; imodintro
  isplitl [H]; · iexact H
  iintro H; iexact H

/-! ## The call's buffers and the tiles' parts -/

/-- The blocks of the list that tile `t` of the row has, and of the result. -/
def iPart (t : Fin (2 ^ 5)) : Finset S1x1354752.Idx := iRange (base (at2 (row32.symm t).1 (row32.symm t).2)) (base (at2 (row32.symm t).1 (row32.symm t).2) + cnt (at2 (row32.symm t).1 (row32.symm t).2))
def gPart (t : Fin (2 ^ 5)) : Finset S1354752x128.Idx := gRange (base (at2 (row32.symm t).1 (row32.symm t).2)) (base (at2 (row32.symm t).1 (row32.symm t).2) + cnt (at2 (row32.symm t).1 (row32.symm t).2))

theorem tile_row (t : Fin (2 ^ 5)) : tile (at2 (row32.symm t).1 (row32.symm t).2) = t.val := by
  rw [tile_at2]; show t.val % 16 + 16 * (t.val / 16) = t.val; omega

/-- The blocks before tile `t`'s. -/
def lo (t : ℕ) : ℕ := if t < 24 then t * 331 else t * 330 + 24
theorem base_row (t : Fin (2 ^ 5)) : base (at2 (row32.symm t).1 (row32.symm t).2) = lo t.val := by
  unfold base lo; rw [tile_row]
theorem end_row (t : Fin (2 ^ 5)) : base (at2 (row32.symm t).1 (row32.symm t).2) + cnt (at2 (row32.symm t).1 (row32.symm t).2) = lo (t.val + 1) := by
  unfold base cnt lo; rw [tile_row]; split <;> split <;> omega
theorem lo_mono {a b : ℕ} (h : a ≤ b) : lo a ≤ lo b := by unfold lo; split <;> split <;> omega

theorem iPart_disjoint : ∀ a ∈ (Finset.univ : Finset (Fin (2 ^ 5))), ∀ b ∈ (Finset.univ : Finset (Fin (2 ^ 5))), a ≠ b → Disjoint (iPart a) (iPart b) := by
  intro a _ b _ h
  unfold iPart
  rw [end_row, end_row, base_row, base_row]
  rcases Nat.lt_or_gt_of_ne (fun e => h (Fin.ext e)) with g | g
  · exact iRange_disjoint (lo_mono g)
  · exact (iRange_disjoint (lo_mono g)).symm
theorem gPart_disjoint : ∀ a ∈ (Finset.univ : Finset (Fin (2 ^ 5))), ∀ b ∈ (Finset.univ : Finset (Fin (2 ^ 5))), a ≠ b → Disjoint (gPart a) (gPart b) := by
  intro a _ b _ h
  unfold gPart
  rw [end_row, end_row, base_row, base_row]
  rcases Nat.lt_or_gt_of_ne (fun e => h (Fin.ext e)) with g | g
  · exact gRange_disjoint (lo_mono g)
  · exact (gRange_disjoint (lo_mono g)).symm

/-- Every block below the last is some tile's. -/
theorem lo_cover {n : ℕ} (h : n < 10584) : ∃ t : Fin (2 ^ 5), lo t.val ≤ n ∧ n < lo (t.val + 1) := by
  by_cases h1 : n < 24 * 331
  · refine ⟨⟨n / 331, by omega⟩, ?_⟩
    show lo (n / 331) ≤ n ∧ n < lo (n / 331 + 1)
    unfold lo; split <;> split <;> omega
  · refine ⟨⟨(n - 24) / 330, by omega⟩, ?_⟩
    show lo ((n - 24) / 330) ≤ n ∧ n < lo ((n - 24) / 330 + 1)
    unfold lo; split <;> split <;> omega

theorem iPart_cover : (Finset.univ : Finset (Fin (2 ^ 5))).biUnion iPart = Finset.univ := by
  ext p
  have hp : (p 1).val < 1354752 := (p 1).isLt
  obtain ⟨t, h1, h2⟩ := lo_cover (n := (p 1).val / 128) (by omega)
  refine ⟨fun _ => Finset.mem_univ _, fun _ => Finset.mem_biUnion.mpr ⟨t, Finset.mem_univ _, ?_⟩⟩
  unfold iPart; rw [mem_iRange, end_row, base_row]; omega
theorem gPart_cover : (Finset.univ : Finset (Fin (2 ^ 5))).biUnion gPart = Finset.univ := by
  ext p
  have hp : (p 0).val < 1354752 := (p 0).isLt
  obtain ⟨t, h1, h2⟩ := lo_cover (n := (p 0).val / 128) (by omega)
  refine ⟨fun _ => Finset.mem_univ _, fun _ => Finset.mem_biUnion.mpr ⟨t, Finset.mem_univ _, ?_⟩⟩
  unfold gPart; rw [mem_gRange, end_row, base_row]; omega

/-- A buffer held whole is held in 32 shares. -/
theorem shares32 {ℓ : Loc nD τ sig} (f : Buf (Elt F) ℓ) :
    (ℓ ↦{fullShare} f : sProp 𝕄) = bigSep Finset.univ fun t : Fin (2 ^ 5) => ℓ ↦{leaf 5 fullShare t} f :=
  pointsTo_leaves Finset.univ f 5 fullShare

/-- The three buffers whole are what the 32 tiles are handed, together. -/
theorem whole_eq (g : Dev nD → S1354752x128.Idx → F .f32) (d : Dev nD) :
    (iprop((xLoc d ↦{fullShare} fx d) ∗ (iLoc d ↦{fullShare} fi d) ∗ gLoc d ↦{fullShare} g d) : sProp 𝕄)
      = bigSep Finset.univ fun c : Fin 2 => bigSep Finset.univ fun s : Fin 16 => tgo fx fi g d c s := by
  have hi : (iLoc d ↦{fullShare} fi d : sProp 𝕄) = bigSep Finset.univ fun t : Fin (2 ^ 5) => iLoc d ↦[iPart t]{fullShare} fi d := by
    rw [← pointsTo_biUnion Finset.univ (ℓ := iLoc d) iPart iPart_disjoint, iPart_cover]; try rfl
  have hg : (gLoc d ↦{fullShare} g d : sProp 𝕄) = bigSep Finset.univ fun t : Fin (2 ^ 5) => gLoc d ↦[gPart t]{fullShare} g d := by
    rw [← pointsTo_biUnion Finset.univ (ℓ := gLoc d) gPart gPart_disjoint, gPart_cover]; try rfl
  have hx : (xLoc d ↦{fullShare} fx d : sProp 𝕄) = bigSep Finset.univ fun t : Fin (2 ^ 5) => xLoc d ↦{leaf 5 fullShare t} fx d :=
    shares32 (ℓ := xLoc d) (fx d)
  rw [hi, hg, hx, ← bigSep_sep', ← bigSep_sep', ← bigSep_univ_prod (fun p : Fin 2 × Fin 16 => tgo (F := F) fx fi g d p.1 p.2),
    bigSep_univ_equiv row32.symm (fun p : Fin 2 × Fin 16 => tgo (F := F) fx fi g d p.1 p.2)]
  refine bigSep_congr fun t _ => ?_
  show _ = goes (F := F) d _ _ _ _ (leaf 5 fullShare (row32 (row32.symm t)))
  rw [Equiv.apply_symm_apply]
  rfl

theorem st_eq (d : Dev nD) : (bigSep Finset.univ fun c : Fin ((K (F := F)).nCore 0) => (P fx fi fg).st 0 d c)
    = (iprop((xLoc d ↦{fullShare} fx d) ∗ (iLoc d ↦{fullShare} fi d) ∗ gLoc d ↦{fullShare} fg d) : sProp 𝕄) := by
  rw [whole_eq fx fi fg d]; exact bigSep_congr fun _ _ => rfl
theorem dn_eq (d : Dev nD) : (bigSep Finset.univ fun c : Fin ((K (F := F)).nCore 0) => (P fx fi fg).dn 0 d c)
    = (iprop((xLoc d ↦{fullShare} fx d) ∗ (iLoc d ↦{fullShare} fi d) ∗ gLoc d ↦{fullShare} gVal (fx d) (fi d)) : sProp 𝕄) := by
  rw [whole_eq fx fi (gV' fx fi) d]; exact bigSep_congr fun _ _ => rfl

end Cert.Proof.Tile

end
-- ==== Proof.Host.lean ====
/-
  The host program: its operations before the SparseCore call, between the two calls and after the product, as lines of
  operations, and what every array holds after each stretch and each call.
-/
module

public import proofs.«01_k».proof.Proof.Region
public import proofs.«01_k».proof.Proof.Launch

@[expose] public section

noncomputable section

namespace Cert.Proof.Host

open Cert.KernelIdeal Cert.KernelIdeal.Gen
open Cert.Proof.Tile (ΛP K D 𝒱₀ 𝒱 v₀ UH UP UU EH EP gVal)
open Cert.Proof.Product (ucRefs product)

open Idealize.ShloMosaic Idealize.ShloMosaic.ValueIdx Idealize.ShloMosaic.StableHlo
open Idealize.ShloMosaic.TcCoe
open Idealize.SL.Sem

variable {F : FTy → Type} [FloatOps F]

/-! ## The lines of operations -/

/-- The two columns of the scatter's indices side by side. -/
def joinIdx : (⟨S27x50000x1, .i32⟩ : BufTy).Contents (Elt F) → (⟨S27x50000x1, .i32⟩ : BufTy).Contents (Elt F) → (⟨S27x50000x2, .i32⟩ : BufTy).Contents (Elt F) :=
  fun a b => concatenate S27x50000x2 2 [⟨S27x50000x1, a⟩, ⟨S27x50000x1, b⟩] concatenates_S27x50000x1_S27x50000x1_S27x50000x2_d2
/-- The rows with one more below them. -/
def joinRows : (⟨S50000x128, .f32⟩ : BufTy).Contents (Elt F) → (⟨S1x128, .f32⟩ : BufTy).Contents (Elt F) → (⟨S50001x128, .f32⟩ : BufTy).Contents (Elt F) :=
  fun a b => concatenate S50001x128 0 [⟨S50000x128, a⟩, ⟨S1x128, b⟩] concatenates_S50000x128_S1x128_S50001x128_d0

/-- The operations before the SparseCore call: the inverse map (filled, scattered, cut, transposed, padded, flattened) and the padded rows. -/
def opsIn : List (HloOp τ sig (Elt F)) :=
  [ nullary main_c (constantI S_ 32 50000#32),
    unary main_c main_v0 (broadcastInDim S27x50001 ![] bcast_S_S27x50001 : (⟨S_, .i32⟩ : BufTy).Contents (Elt F) → (⟨S27x50001, .i32⟩ : BufTy).Contents (Elt F)),
    nullary main_v1 (iotaInDim S27 32 0),
    unary main_v1 main_v2 (broadcastInDim S27x1 ![0] bcast_S27_S27x1_0 : (⟨S27, .i32⟩ : BufTy).Contents (Elt F) → (⟨S27x1, .i32⟩ : BufTy).Contents (Elt F)),
    nullary main_c_0 (constantI S_ 32 0#32),
    unary main_c_0 main_v3 (broadcastInDim S27x1 ![] bcast_S_S27x1 : (⟨S_, .i32⟩ : BufTy).Contents (Elt F) → (⟨S27x1, .i32⟩ : BufTy).Contents (Elt F)),
    binary main_v2 main_v3 main_v4 (cmpi .slt : (⟨S27x1, .i32⟩ : BufTy).Contents (Elt F) → (⟨S27x1, .i32⟩ : BufTy).Contents (Elt F) → (⟨S27x1, .i1⟩ : BufTy).Contents (Elt F)),
    nullary main_c_1 (constantI S_ 32 27#32),
    unary main_c_1 main_v5 (broadcastInDim S27x1 ![] bcast_S_S27x1 : (⟨S_, .i32⟩ : BufTy).Contents (Elt F) → (⟨S27x1, .i32⟩ : BufTy).Contents (Elt F)),
    binary main_v2 main_v5 main_v6 (addi : (⟨S27x1, .i32⟩ : BufTy).Contents (Elt F) → (⟨S27x1, .i32⟩ : BufTy).Contents (Elt F) → (⟨S27x1, .i32⟩ : BufTy).Contents (Elt F)),
    ternary main_v4 main_v6 main_v2 main_v7 (select : (⟨S27x1, .i1⟩ : BufTy).Contents (Elt F) → (⟨S27x1, .i32⟩ : BufTy).Contents (Elt F) → (⟨S27x1, .i32⟩ : BufTy).Contents (Elt F) → (⟨S27x1, .i32⟩ : BufTy).Contents (Elt F)),
    nullary main_c_2 (constantI S_ 32 0#32),
    unary main_c_2 main_v8 (broadcastInDim S27x50000 ![] bcast_S_S27x50000 : (⟨S_, .i32⟩ : BufTy).Contents (Elt F) → (⟨S27x50000, .i32⟩ : BufTy).Contents (Elt F)),
    binary main_arg4 main_v8 main_v9 (cmpi .slt : (⟨S27x50000, .i32⟩ : BufTy).Contents (Elt F) → (⟨S27x50000, .i32⟩ : BufTy).Contents (Elt F) → (⟨S27x50000, .i1⟩ : BufTy).Contents (Elt F)),
    nullary main_c_3 (constantI S_ 32 50001#32),
    unary main_c_3 main_v10 (broadcastInDim S27x50000 ![] bcast_S_S27x50000 : (⟨S_, .i32⟩ : BufTy).Contents (Elt F) → (⟨S27x50000, .i32⟩ : BufTy).Contents (Elt F)),
    binary main_arg4 main_v10 main_v11 (addi : (⟨S27x50000, .i32⟩ : BufTy).Contents (Elt F) → (⟨S27x50000, .i32⟩ : BufTy).Contents (Elt F) → (⟨S27x50000, .i32⟩ : BufTy).Contents (Elt F)),
    ternary main_v9 main_v11 main_arg4 main_v12 (select : (⟨S27x50000, .i1⟩ : BufTy).Contents (Elt F) → (⟨S27x50000, .i32⟩ : BufTy).Contents (Elt F) → (⟨S27x50000, .i32⟩ : BufTy).Contents (Elt F) → (⟨S27x50000, .i32⟩ : BufTy).Contents (Elt F)),
    unary main_v7 main_v13 (broadcastInDim S27x50000 ![0, 1] bcast_S27x1_S27x50000_0_1 : (⟨S27x1, .i32⟩ : BufTy).Contents (Elt F) → (⟨S27x50000, .i32⟩ : BufTy).Contents (Elt F)),
    unary main_v13 main_v14 (broadcastInDim S27x50000x1 ![0, 1] bcast_S27x50000_S27x50000x1_0_1 : (⟨S27x50000, .i32⟩ : BufTy).Contents (Elt F) → (⟨S27x50000x1, .i32⟩ : BufTy).Contents (Elt F)),
    unary main_v12 main_v15 (broadcastInDim S27x50000x1 ![0, 1] bcast_S27x50000_S27x50000x1_0_1 : (⟨S27x50000, .i32⟩ : BufTy).Contents (Elt F) → (⟨S27x50000x1, .i32⟩ : BufTy).Contents (Elt F)),
    binary main_v14 main_v15 main_v16 (joinIdx (F := F)),
    ternary main_v0 main_v16 main_arg3 main_v17 ((fun x i u => Host.scatter scatter_S27x50001_S27x50000x2_S27x50000_n_01_01_2 (fun _ b => b) x i u) : (⟨S27x50001, .i32⟩ : BufTy).Contents (Elt F) → (⟨S27x50000x2, .i32⟩ : BufTy).Contents (Elt F) → (⟨S27x50000, .i32⟩ : BufTy).Contents (Elt F) → (⟨S27x50001, .i32⟩ : BufTy).Contents (Elt F)),
    unary main_v17 main_v18 ((extractStridedSlice S27x50000 ![0, 0] · slices_S27x50001_S27x50000_0_0) : (⟨S27x50001, .i32⟩ : BufTy).Contents (Elt F) → (⟨S27x50000, .i32⟩ : BufTy).Contents (Elt F)),
    unary main_v18 main_v19 ((transpose S50000x27 [1, 0] · transposes_S27x50000_S50000x27_1_0) : (⟨S27x50000, .i32⟩ : BufTy).Contents (Elt F) → (⟨S50000x27, .i32⟩ : BufTy).Contents (Elt F)),
    nullary main_c_4 (constantI S_ 32 50000#32),
    TRef.unary (TRef.of (T := ⟨S_, .i32⟩) main_c_4) (TRef.of (T := ⟨S_, .i32⟩) main_call0_v0) id,
    TRef.binary (TRef.of (T := ⟨S50000x27, .i32⟩) main_v19) (TRef.of (T := ⟨S_, .i32⟩) main_call0_v0) (TRef.of (T := ⟨S50176x27, .i32⟩) main_v20) (fun x v => pad S50176x27 ![0, 0] ![176, 0] ![0, 0] x v pads_S50000x27_S50176x27_01760_000 h_S_),
    reshape main_v20 main_v21 (rfl : (.i32 : EltTy) = .i32) shapeCasts_S50176x27_S1x1354752,
    nullary main_cst (constant S_ .f32 0x00000000#32),
    unary main_cst main_v22 (broadcastInDim S1x128 ![] bcast_S_S1x128 : (⟨S_, .f32⟩ : BufTy).Contents (Elt F) → (⟨S1x128, .f32⟩ : BufTy).Contents (Elt F)),
    binary main_arg0 main_v22 main_v23 (joinRows (F := F)) ]

/-- What they write, in order. -/
abbrev opsInW : List (Ref sig .tc) := [main_c, main_v0, main_v1, main_v2, main_c_0, main_v3, main_v4, main_c_1, main_v5, main_v6, main_v7, main_c_2, main_v8, main_v9, main_c_3, main_v10, main_v11, main_v12, main_v13, main_v14, main_v15, main_v16, main_v17, main_v18, main_v19, main_c_4, main_call0_v0, main_v20, main_v21, main_cst, main_v22, main_v23]

/-- The operations between the two calls: the gathered rows, the weights and the bias reshaped for the product. -/
def opsMid : List (HloOp τ sig (Elt F)) :=
  [ reshape main_v24 main_v25 (rfl : (.f32 : EltTy) = .f32) shapeCasts_S1354752x128_S50176x3456,
    reshape main_arg1 main_v26 (rfl : (.f32 : EltTy) = .f32) shapeCasts_S27x128x128_S3456x128,
    reshape main_arg2 main_v27 (rfl : (.f32 : EltTy) = .f32) shapeCasts_S128_S1x128 ]

/-- What they write, in order. -/
abbrev opsMidW : List (Ref sig .tc) := [main_v25, main_v26, main_v27]

/-- The operation after the product: its first 50000 rows. -/
def opsOut : List (HloOp τ sig (Elt F)) :=
  [ unary main_v28 main_v29 ((extractStridedSlice S50000x128 ![0, 0] · slices_S50176x128_S50000x128_0_0) : (⟨S50176x128, .f32⟩ : BufTy).Contents (Elt F) → (⟨S50000x128, .f32⟩ : BufTy).Contents (Elt F)) ]

/-- What it writes. -/
abbrev opsOutW : List (Ref sig .tc) := [main_v29]

set_option maxRecDepth 8192 in
/-- The host program is the three lines with the two calls between them. -/
theorem main_eq (d : Dev nD) : (main (F := F) d) = (seq opsIn >>= fun _ => (K (F := F)).run d 0 >>= fun _ => seq opsMid >>= fun _ =>
    Prog.lift (.customCall (SparseCore.inner (Pipeline.entry 0)) ()) >>= fun _ => seq opsOut) := rfl

/-- Every buffer an operation touches is an unscoped buffer of the TensorCore. -/
theorem sub_uc {ops : List (HloOp τ sig (Elt F))} (h : ops.Forall fun op => op.bufs ⊆ tcRefs τ sig) : ∀ op ∈ ops, op.bufs ⊆ ucRefs :=
  fun op hop b hb => Finset.mem_filter.mpr ⟨List.forall_iff_forall_mem.mp h op hop hb, by rw [op.no_scoped b hb]; exact Bool.false_ne_true⟩

set_option maxRecDepth 8192 in
theorem opsIn_sub : ∀ op ∈ (opsIn : List (HloOp τ sig (Elt F))), op.bufs ⊆ ucRefs :=
  sub_uc (ops := opsIn) ⟨nullary_bufs_sub .., unary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., unary_bufs_sub .., binary_bufs_sub .., ternary_bufs_sub .., unary_bufs_sub .., unary_bufs_sub .., nullary_bufs_sub .., unary_bufs_sub .., binary_bufs_sub .., reshape_bufs_sub .., nullary_bufs_sub .., unary_bufs_sub .., binary_bufs_sub ..⟩
theorem opsMid_sub : ∀ op ∈ (opsMid : List (HloOp τ sig (Elt F))), op.bufs ⊆ ucRefs :=
  sub_uc (ops := opsMid) ⟨reshape_bufs_sub .., reshape_bufs_sub .., reshape_bufs_sub ..⟩
theorem opsOut_sub : ∀ op ∈ (opsOut : List (HloOp τ sig (Elt F))), op.bufs ⊆ ucRefs :=
  sub_uc (ops := opsOut) (unary_bufs_sub ..)

set_option maxRecDepth 8192 in
theorem opsIn_fresh : ∀ op ∈ (opsIn : List (HloOp τ sig (Elt F))), op.fresh = ∅ := List.forall_iff_forall_mem.mp (forall_fresh_of_map rfl)
theorem opsMid_fresh : ∀ op ∈ (opsMid : List (HloOp τ sig (Elt F))), op.fresh = ∅ := List.forall_iff_forall_mem.mp (forall_fresh_of_map rfl)
theorem opsOut_fresh : ∀ op ∈ (opsOut : List (HloOp τ sig (Elt F))), op.fresh = ∅ := List.forall_iff_forall_mem.mp (forall_fresh_of_map rfl)

set_option maxRecDepth 8192 in
/-- A buffer none of the line's operations writes keeps its contents. -/
theorem opsIn_keep (V : Valuation τ sig (Elt F)) (r : Ref sig .tc) (hr : r ∉ opsInW) : after opsIn V (Proc.devRef .tc r) = V (Proc.devRef .tc r) :=
  after_of_writes_sub opsIn V (forall_writes_sub_of_map rfl) hr
theorem opsMid_keep (V : Valuation τ sig (Elt F)) (r : Ref sig .tc) (hr : r ∉ opsMidW) : after opsMid V (Proc.devRef .tc r) = V (Proc.devRef .tc r) :=
  after_of_writes_sub opsMid V (forall_writes_sub_of_map rfl) hr
theorem opsOut_keep (V : Valuation τ sig (Elt F)) (r : Ref sig .tc) (hr : r ∉ opsOutW) : after opsOut V (Proc.devRef .tc r) = V (Proc.devRef .tc r) :=
  after_of_writes_sub opsOut V (forall_writes_sub_of_map rfl) hr

/-! ## What the arrays hold -/

variable (m : (ℓ : Loc nD τ sig) → Buf (Elt F) ℓ)

/-- At the launch. -/
def W0 (d : Dev nD) : Valuation τ sig (Elt F) := fun b => m (d, b)
/-- Before the SparseCore call. -/
def W1 (d : Dev nD) : Valuation τ sig (Elt F) := after opsIn (W0 m d)
/-- The padded rows, the index list and the result's old contents as the SparseCore call takes them. -/
def fx (d : Dev nD) : S50001x128.Idx → F .f32 := W1 m d (Proc.devRef .tc main_v23)
def fi (d : Dev nD) : S1x1354752.Idx → BitVec 32 := W1 m d (Proc.devRef .tc main_v21)
def fg (d : Dev nD) : S1354752x128.Idx → F .f32 := W1 m d (Proc.devRef .tc main_v24)
/-- After it: the gathered rows in its result. -/
def W2 (d : Dev nD) : Valuation τ sig (Elt F) := Function.update (W1 m d) (Proc.devRef .tc main_v24) (gVal (fx m d) (fi m d))
/-- Before the product. -/
def W3 (d : Dev nD) : Valuation τ sig (Elt F) := after opsMid (W2 m d)
abbrev V3 (c : Dev nD) (b : Ref sig .tc) : Buf (Elt F) ((c : Thread nD τ).loc b) := W3 m c (Proc.devRef .tc b)
/-- After it: the product in its result. -/
def W4 (d : Dev nD) : Valuation τ sig (Elt F) := Function.update (W3 m d) (Proc.devRef .tc main_v28) (product (V3 m) (8 * 1) d)
/-- At the end. -/
def W5 (d : Dev nD) : Valuation τ sig (Elt F) := after opsOut (W4 m d)

/-- An argument ends as it was launched. -/
theorem W5_arg (d : Dev nD) (r : Ref sig .tc) (h1 : r ∉ opsInW) (h2 : r ≠ main_v24) (h3 : r ∉ opsMidW) (h4 : r ≠ main_v28) (h5 : r ∉ opsOutW) :
    W5 m d (Proc.devRef .tc r) = m (d, Proc.devRef .tc r) := by
  unfold W5; rw [opsOut_keep _ r h5]
  unfold W4; rw [Function.update_of_ne (devRef_ne_of_ne h4)]
  unfold W3; rw [opsMid_keep _ r h3]
  unfold W2; rw [Function.update_of_ne (devRef_ne_of_ne h2)]
  unfold W1; rw [opsIn_keep _ r h1]
  rfl

end Cert.Proof.Host

end
-- ==== Proof.Run.lean ====
/-
  The kernel's run: the host program's steps on the TensorCore, from the arrays as launched through the SparseCore call
  and the product to the arrays at the end, and what every terminating execution leaves in memory.
-/
module

public import proofs.«01_k».proof.Proof.Host

@[expose] public section

noncomputable section

namespace Cert.Proof.Run

open Cert.KernelIdeal Cert.KernelIdeal.Gen
open Cert.Proof.Tile (ΛP K D 𝒱₀ 𝒱 v₀ facts UH UP UU EH EP gVal xLoc iLoc gLoc tileObl vecSplit st_eq dn_eq)
open Cert.Proof.Product (ucRefs unscopedBufs_held product owesBelow below reg pdats)
open Cert.Proof.Host

open Idealize.ShloMosaic Idealize.ShloMosaic.ValueIdx
open Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (pin cellOf)

variable {F : FTy → Type} [FloatOps F]

local notation "𝕄" => MT nD τ sig (HIx 1) (Elt F) ℕ UU ℕ

/-! ## The product as a step of the host program -/

/-- The product's windows are on whole arrays: no offset to choose. -/
abbrev adm : (p : Fin 1) → (pcfgs (F := F) p).Adm := fun p => (cfgs p).toPCfg_adm

/-- The pipelines' staging cells are pairwise distinct. -/
theorem pin_inj : Function.Injective (cellOf (nD := nD) (τ := τ) (pin pcfgs (adm (F := F)))) := cellOf_inj

/-- The ghost state the product's pipeline starts from. -/
abbrev pipe (d : Dev nD) : sProp 𝕄 := iprop(Pipeline.cellsGhost (pin pcfgs (adm (F := F))) EP 0 d ∗ Pipeline.toksInit (pin pcfgs (adm (F := F))) EP 0 d)

/-- The product called by the host: from the arrays at `A`, the core owing nothing, to the same with the product in the result. -/
theorem product_wp [∀ e, Nonempty (Elt F e)] (A A' : Dev nD → Valuation τ sig (Elt F)) (b : ℕ) (d : Dev nD)
    (hout : ∀ c, A' c (Proc.devRef .tc main_v28) = product (fun c r => A c (Proc.devRef .tc r)) b c)
    (hne : ∀ c (r : Ref sig .tc), r ≠ main_v28 → A' c (Proc.devRef .tc r) = A c (Proc.devRef .tc r)) (Φ : PUnit → sProp 𝕄) :
    iprop(levAts (K (F := F)).L (K (F := F)).lev ∗ boundary (T d) ∗ StableHlo.held (T d) ucRefs (A d) ∗ owesBelow (F := F) b d ∗ pipe (F := F) d
        ∗ ((boundary (T d) ∗ StableHlo.held (T d) ucRefs (A' d) ∗ owesBelow (F := F) b d) -∗ Φ ⟨⟩))
      ⊢ wp frame (wpE ((K (F := F)).defs (D (F := F))) 𝒱 (T d) none) Set.univ (Prog.lift (.customCall (SparseCore.inner (Pipeline.entry 0)) ())) Φ := by
  have hstep := Pipeline.RegionSeg.wp (pcfgs (F := F)) adm (pdats (fun c r => A c (Proc.devRef .tc r)) b adm) none pin_inj EP defs₀ 𝒱₀
    (K (F := F)).L (K (F := F)).lev (reg (fun c r => A c (Proc.devRef .tc r)) b adm (fun c r => A' c (Proc.devRef .tc r)) hout hne) d none
    (fun _ h => nomatch h) .ret Φ
  refine BIBase.Entails.trans ?_ (hstep.trans ((K (F := F)).wp_liftProg (D (F := F)) 𝒱 (T d) Set.univ none _ Φ))
  rw [← unscopedBufs_held, ← unscopedBufs_held, wp_ret]
  show _ ⊢ iprop(((boundary (T d) ∗ (unscopedBufs d (fun r => A' d (Proc.devRef .tc r)) ∗ owesBelow (F := F) b d)) -∗ _) ∗ boundary (T d)
    ∗ (unscopedBufs d (fun r => A d (Proc.devRef .tc r)) ∗ owesBelow (F := F) b d) ∗ _)
  iintro ⟨Hlev, Hb, Hub, HO, ⟨Hcg, Htk⟩, Hk⟩
  isplitl [Hk]
  · iintro ⟨Hb, Hub, HO⟩
    imodintro
    iapply Hk
    isplitl [Hb]; · iexact Hb
    isplitl [Hub] <;> iassumption
  isplitl [Hb]; · iexact Hb
  isplitl [Hub HO]; · isplitl [Hub] <;> iassumption
  isplitl [Hlev]; · iexact Hlev
  isplitl [Hcg] <;> iassumption

/-! ## The launch element of the ghost state -/

def u₀ : UU := (initOf (K (F := F)).hsCells (K (F := F)).hsToks,
  (initOf (Pipeline.cells (pin pcfgs (adm (F := F))) pin_inj) (Pipeline.launchToks (pin pcfgs (adm (F := F))) pin_inj), 1))

omit [FloatOps F] in
theorem nothings {I : Type} (s : Finset I) : (bigSep s fun _ => iprop(emp)) = (iprop(emp) : sProp 𝕄) := bigSep_emp_const s

variable (m : (ℓ : Loc nD τ sig) → Buf (Elt F) ℓ)

abbrev P := Tile.P (fx m) (fi m) (fg m)

omit [FloatOps F] in
/-- The pipelines' share of the ghost state, in its place within the whole. -/
theorem own_EP (x : UP) : (BI.own (((Emb.inl : Emb UP (UP × Counters)).trans embR : Emb UP 𝕄) x) : sProp 𝕄) = BI.own ((EP : Emb UP 𝕄) x) := rfl

/-- From the pipelines' share of the launch's ghost state, every device's. -/
theorem pipes : BI.own ((EP : Emb UP 𝕄) (initOf (Pipeline.cells (pin pcfgs (adm (F := F))) pin_inj) (Pipeline.launchToks (pin pcfgs (adm (F := F))) pin_inj)))
    ⊢ |==> (bigSep Finset.univ fun d : Dev nD => pipe (F := F) d) := by
  refine BIBase.Entails.trans (Pipeline.fund_ghost (pin pcfgs (adm (F := F))) EP pin_inj) (BI.bupd_mono ?_)
  rw [bigSep_sep']
  exact sep_mono (bigSep_mono fun c _ => bigSep_elim (Φ := fun p => Pipeline.cellsGhost (pin pcfgs (adm (F := F))) EP p c) (Finset.mem_univ (0 : Fin 1)))
    (bigSep_mono fun c _ => bigSep_elim (Φ := fun p => Pipeline.toksInit (pin pcfgs (adm (F := F))) EP p c) (Finset.mem_univ (0 : Fin 1)))

theorem hu₀ : (ownU (u₀ (F := F)) : sProp 𝕄)
    ⊢ |={Set.univ}=> iprop(BI.own (EH (initOf (K (F := F)).hsCells (K (F := F)).hsToks)) ∗ (bigSep Finset.univ fun d : Dev nD => pipe (F := F) d)
        ∗ bigSep Finset.univ fun thr : Thread nD τ => bigSep Finset.univ fun q : Fin 1 => (P m).x q thr) := by
  unfold u₀
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), nothings]
  iintro Hu
  ihave H := (ownU_pair (initOf (K (F := F)).hsCells (K (F := F)).hsToks) _) $$ Hu
  icases H with ⟨HH, HP⟩
  ihave H := (own_pair_emb embR _ _) $$ HP
  icases H with ⟨HP, -⟩
  ihave HP := (Entails.of_eq (own_EP (F := F) _)) $$ HP
  imod (pipes (F := F)) $$ HP with Hp
  imodintro
  isplitl [HH]; · iexact HH
  isplitl [Hp]; · iexact Hp
  iempintro

/-! ## @main on the TensorCore -/

theorem launch_held (d : Dev nD) : (unscopedBufs d (fun b => m ((SparseCore.T d).loc b)) : sProp 𝕄) = StableHlo.held (T d) ucRefs (W0 m d) := by
  rw [← unscopedBufs_held]
  rfl

theorem held_take3 (d : Dev nD) (W : Valuation τ sig (Elt F)) :
    (StableHlo.held (T d) ucRefs W : sProp 𝕄)
      = iprop(((xLoc d ↦{fullShare} W (Proc.devRef .tc main_v23)) ∗ (iLoc d ↦{fullShare} W (Proc.devRef .tc main_v21)) ∗ gLoc d ↦{fullShare} W (Proc.devRef .tc main_v24))
          ∗ StableHlo.held (T d) (ucRefs \ {Proc.devRef .tc main_v23, Proc.devRef .tc main_v21, Proc.devRef .tc main_v24}) W) := by
  rw [StableHlo.held_sub_split (T d) (T := {Proc.devRef .tc main_v23, Proc.devRef .tc main_v21, Proc.devRef .tc main_v24}) (by decide) W]
  congr 1
  unfold StableHlo.held
  rw [SparseCore.bigSep_insert' (by decide), SparseCore.bigSep_insert' (by decide), bigSep_singleton]

/-- The TensorCore's state after the one SparseCore call: it owes nothing, and takes its debts back unchanged. -/
theorem tcSt_open (d : Dev nD) : ((K (F := F)).tcSt EH d 1 : sProp 𝕄) ⊢ iprop(owesBelow (F := F) (8 * 1) d ∗ (owesBelow (F := F) (8 * 1) d -∗ (K (F := F)).tcSt EH d 1)) := by
  unfold SparseCore.Cfg.tcSt
  rw [(K (F := F)).Otc_end d (Nat.le_refl 1)]
  iintro ⟨HO, Hr⟩
  isplitl [HO]; · iexact HO
  iintro HO
  isplitl [HO]; · iexact HO
  iexact Hr

/-- @main on a device's TensorCore, from the launch to every array at its final contents. -/
theorem hmain [∀ e, Nonempty (Elt F e)] (ρ : Dev nD → PrngReg) (κ : GSem nD τ sig → ℕ) (d : Dev nD) :
    iprop((K (F := F)).ctx EH (P m) κ ∗ (K (F := F)).tcSt EH d 0 ∗ (K (F := F)).tcRes m ρ d ∗ pipe (F := F) d)
      ⊢ wp frame (wpE ((K (F := F)).defs (D (F := F))) 𝒱 (T d) none) Set.univ (main d)
          fun _ => iprop((K (F := F)).tcSt EH d 1 ∗ StableHlo.held (T d) ucRefs (W5 m d) ∗ (K (F := F)).tcEnd d) := by
  have h2 : (StableHlo.held (T d) (ucRefs \ {Proc.devRef .tc main_v23, Proc.devRef .tc main_v21, Proc.devRef .tc main_v24}) (W1 m d) : sProp 𝕄)
      = StableHlo.held (T d) (ucRefs \ {Proc.devRef .tc main_v23, Proc.devRef .tc main_v21, Proc.devRef .tc main_v24}) (W2 m d) :=
    StableHlo.held_congr _ fun b hb => by
      unfold W2; rw [Function.update_of_ne]
      rintro rfl; simp at hb
  have hback : (iprop(((xLoc d ↦{fullShare} fx m d) ∗ (iLoc d ↦{fullShare} fi m d) ∗ gLoc d ↦{fullShare} gVal (fx m d) (fi m d))
      ∗ StableHlo.held (T d) (ucRefs \ {Proc.devRef .tc main_v23, Proc.devRef .tc main_v21, Proc.devRef .tc main_v24}) (W1 m d)) : sProp 𝕄)
      = StableHlo.held (T d) ucRefs (W2 m d) := by
    rw [h2, held_take3 d (W2 m d)]
    unfold W2
    rw [Function.update_of_ne (StableHlo.devRef_ne_of_ne (by decide)), Function.update_of_ne (StableHlo.devRef_ne_of_ne (by decide)), Function.update_self]
    rfl
  have htake : (StableHlo.held (d.tc : Thread nD τ) ucRefs (StableHlo.after opsIn (W0 m d)) : sProp 𝕄)
      = iprop(((xLoc d ↦{fullShare} fx m d) ∗ (iLoc d ↦{fullShare} fi m d) ∗ gLoc d ↦{fullShare} fg m d)
      ∗ StableHlo.held (T d) (ucRefs \ {Proc.devRef .tc main_v23, Proc.devRef .tc main_v21, Proc.devRef .tc main_v24}) (W1 m d)) := held_take3 d (W1 m d)
  unfold SparseCore.Cfg.tcRes SparseCore.Cfg.tcEnd
  rw [launch_held, main_eq]
  iintro ⟨#Hctx, Hst, ⟨Hb, Hbufs, Hts, -⟩, HG⟩
  iapply (StableHlo.wp_seq 𝒱 none Set.univ d ucRefs _ opsIn opsIn_sub opsIn_fresh (W0 m d)) $$ [Hb Hbufs]
  · isplitl [Hb] <;> iassumption
  beta_reduce
  iintro ⟨Hb, Hbufs⟩
  ihave H := (Entails.of_eq htake) $$ Hbufs
  icases H with ⟨Hio, Hrest⟩
  iapply (Entails.of_eq (wp_bind _ _ _ _ _ _).symm)
  iapply ((K (F := F)).wp_run (D (F := F)) 𝒱 (EH := EH) (P := P m) κ d 0) $$ [Hst Hio Hrest Hb Hts HG]
  isplitr; · iexact Hctx
  isplitl [Hst]; · iexact Hst
  isplitl [Hio]; · iapply (Entails.of_eq (st_eq (fx m) (fi m) (fg m) d).symm); iexact Hio
  iintro ⟨Hst, Hdn⟩
  ihave Hio := (Entails.of_eq (dn_eq (fx m) (fi m) (fg m) d)) $$ Hdn
  ihave Hbufs := (Entails.of_eq hback) $$ [Hio Hrest]
  · isplitl [Hio] <;> iassumption
  iapply (StableHlo.wp_seq 𝒱 none Set.univ d ucRefs _ opsMid opsMid_sub opsMid_fresh (W2 m d)) $$ [Hb Hbufs]
  · isplitl [Hb] <;> iassumption
  beta_reduce
  iintro ⟨Hb, Hbufs⟩
  iapply (Entails.of_eq (wp_bind _ _ _ _ _ _).symm)
  ihave Hlev := ((K (F := F)).ctx_levAts κ) $$ Hctx
  ihave H := ((Entails.of_eq (show ((K (F := F)).tcSt EH d ((0 : Fin 1).val + 1) : sProp 𝕄) = (K (F := F)).tcSt EH d 1 from rfl)).trans (tcSt_open d)) $$ Hst
  icases H with ⟨HO, Hst⟩
  iapply (product_wp (W3 m) (W4 m) (8 * 1) d (fun c => Function.update_self _ _ _)
    (fun c r hr => Function.update_of_ne (StableHlo.devRef_ne_of_ne hr) _ _)) $$ [Hlev Hb Hbufs HO Hst HG Hts]
  isplitl [Hlev]; · iexact Hlev
  isplitl [Hb]; · iexact Hb
  isplitl [Hbufs]; · iexact Hbufs
  isplitl [HO]; · iexact HO
  isplitl [HG]; · iexact HG
  iintro ⟨Hb, Hbufs, HO⟩
  ihave Hst := Hst $$ HO
  iapply (Entails.of_eq (congrArg (fun p => wp Idealize.ShloMosaic.frame (wpE ((K (F := F)).defs (D (F := F))) 𝒱 (T d) none) Set.univ p _) (bind_pure _)))
  iapply (StableHlo.wp_seq 𝒱 none Set.univ d ucRefs pure opsOut opsOut_sub opsOut_fresh (W4 m d)) $$ [Hb Hbufs]
  · isplitl [Hb] <;> iassumption
  beta_reduce
  iintro ⟨Hb, Hbufs⟩
  iapply (Entails.of_eq (wp_pure _ _ _ _ _).symm)
  imodintro
  isplitl [Hst]; · iexact Hst
  isplitl [Hbufs]; · iexact Hbufs
  isplitl [Hb] <;> iassumption

/-! ## The program's run -/

/-- What device `d`'s memory holds at the end: every array at its final contents. -/
def ends (d : Dev nD) (s' : Phys nD τ sig (Elt F)) : Prop := ∀ b ∈ ucRefs, s'.mem.mem (d, b) = W5 m d b

theorem hfin (d : Dev nD) (s' : Phys nD τ sig (Elt F)) : iprop(StableHlo.held (T d) ucRefs (W5 m d) ∗ SI s') ⊢ (⌜ends m d s'⌝ : sProp 𝕄) := by
  unfold StableHlo.held
  iintro ⟨H, HSI⟩
  iapply (SI_pointsTo_bufs_agree (st := s') (c := d) (qs := fun _ => fullShare) (F := W5 m d) ucRefs)
  isplitl [HSI] <;> iassumption

/-- The final memory: every array of every device at its final contents, every counter at zero. -/
def Ends : PUnit × MemSt nD τ sig (Elt F) → Prop := fun r => (∀ d : Dev nD, ∀ b ∈ ucRefs, r.2.mem (d, b) = W5 m d b) ∧ r.2.sem = fun _ => 0

/-- Every fair execution from memory `m`, its index list naming rows of the padded features, ends there. -/
theorem run_main [∀ e, Nonempty (Elt F e)] (ρ : Dev nD → PrngReg) (hfi : ∀ d p, (fi m d p).toNat < 50001) :
    θ_run (Cert.KernelIdeal.defs (F := F)) (Cert.KernelIdeal.threads (F := F)) ⟨m, fun _ => 0, ρ⟩ (Ends m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl (fx m) (fi m) (fg m) hfi)
    (fun q _ => match q with | 0 => SparseCore.Cfg.VecSplit.of_plain (vecSplit (fx m) (fi m) (fg m)))
    m ρ main (fun d => pipe (F := F) d) (fun d => StableHlo.held (T d) ucRefs (W5 m d)) (u₀ (F := F)) (sep_elim_left.trans (hu₀ m)) (hmain m ρ) (ends m) (hfin m)
    (Ends m) (fun _ h hz => ⟨h, hz⟩)

end Cert.Proof.Run

end
-- ==== Proof.HostValue.lean ====
/-
  What the host program hands to the two calls, as functions of the arguments: the inverse map as a scatter, the index
  list it is flattened to, the padded rows, the weights and the bias reshaped, and the words the index list holds.
-/
module

public import proofs.«01_k».proof.Proof.Host
public import Idealize.ShloMosaic.Lib.Routing.OpsOrder
public import Idealize.ShloMosaic.Lib.Routing.OpsPair
public import Idealize.ShloMosaic.Lib.Routing.OpsSet
public import Idealize.ShloMosaic.Lib.IdealHost

@[expose] public section

noncomputable section

namespace Cert.Proof.Host

open Cert.KernelIdeal Cert.KernelIdeal.Gen
open Idealize.ShloMosaic Idealize.ShloMosaic.ValueIdx Idealize.ShloMosaic.StableHlo
open Idealize.ShloMosaic.TcCoe
open Idealize.SL.Sem

variable {F : FTy → Type} [FloatOps F]

/-! ## The host's arrays as functions of the arguments -/

/-- The offset's number at every pair, as the scatter takes it. -/
def offsetOf : IVec S27x50000 32 :=
  broadcastInDim S27x50000 ![0, 1] bcast_S27x1_S27x50000_0_1
    (select (cmpi .slt (broadcastInDim S27x1 ![0] bcast_S27_S27x1_0 (iotaInDim S27 32 0)) (broadcastInDim S27x1 ![] bcast_S_S27x1 (constantI S_ 32 0#32)))
      (addi (broadcastInDim S27x1 ![0] bcast_S27_S27x1_0 (iotaInDim S27 32 0)) (broadcastInDim S27x1 ![] bcast_S_S27x1 (constantI S_ 32 27#32)))
      (broadcastInDim S27x1 ![0] bcast_S27_S27x1_0 (iotaInDim S27 32 0)))

/-- The output point of every pair, as the scatter takes it: a negative one counted from the end. -/
def pointOf (kout : IVec S27x50000 32) : IVec S27x50000 32 :=
  select (cmpi .slt kout (broadcastInDim S27x50000 ![] bcast_S_S27x50000 (constantI S_ 32 0#32)))
    (addi kout (broadcastInDim S27x50000 ![] bcast_S_S27x50000 (constantI S_ 32 50001#32))) kout

/-- Where the scatter writes each pair. -/
def places (kout : IVec S27x50000 32) : IVec S27x50000x2 32 :=
  joinIdx (F := F) (broadcastInDim S27x50000x1 ![0, 1] bcast_S27x50000_S27x50000x1_0_1 offsetOf)
    (broadcastInDim S27x50000x1 ![0, 1] bcast_S27x50000_S27x50000x1_0_1 (pointOf kout))

/-- The inverse map: 50000 everywhere, each pair's input point written at its offset and output point. -/
def inverse (kin kout : IVec S27x50000 32) : IVec S27x50001 32 :=
  Host.scatter scatter_S27x50001_S27x50000x2_S27x50000_n_01_01_2 (fun _ b => b)
    (broadcastInDim S27x50001 ![] bcast_S_S27x50001 (constantI S_ 32 50000#32)) (places (F := F) kout) kin

/-- The index list: the inverse map's first 50000 columns, transposed, padded with 50000 and flattened. -/
def indexList (kin kout : IVec S27x50000 32) : IVec S1x1354752 32 :=
  shapeCast S1x1354752 (pad S50176x27 ![0, 0] ![176, 0] ![0, 0]
    (transpose S50000x27 [1, 0] (extractStridedSlice S27x50000 ![0, 0] (inverse (F := F) kin kout) slices_S27x50001_S27x50000_0_0) transposes_S27x50000_S50000x27_1_0)
    (constantI S_ 32 50000#32) pads_S50000x27_S50176x27_01760_000 h_S_) shapeCasts_S50176x27_S1x1354752

/-- The rows with the zero row below them. -/
def padded (x : FVec F S50000x128 .f32) : FVec F S50001x128 .f32 :=
  joinRows x (broadcastInDim S1x128 ![] bcast_S_S1x128 (constant S_ .f32 0x00000000#32))

variable (m : (ℓ : Loc nD τ sig) → Buf (Elt F) ℓ)

set_option maxRecDepth 8192 in
theorem fi_eq (d : Dev nD) : fi m d = indexList (F := F) (m ((d : Thread nD τ).loc main_arg3)) (m ((d : Thread nD τ).loc main_arg4)) := by
  unfold fi W1
  simp only [opsIn, TRef.binary, TRef.nullary, TRef.ternary, TRef.unary, TRef.toBuf, TRef.ofBuf, cast_eq]
  after_results_simp <;> rfl

set_option maxRecDepth 8192 in
theorem fx_eq (d : Dev nD) : fx m d = padded (m ((d : Thread nD τ).loc main_arg0)) := by
  unfold fx W1
  simp only [opsIn, TRef.binary, TRef.nullary, TRef.ternary, TRef.unary, TRef.toBuf, TRef.ofBuf, cast_eq]
  after_results_simp <;> rfl

/-- The inverse map's words are below 50001 when the input points are. -/
theorem inverse_lt (kin kout : IVec S27x50000 32) (h : ∀ i, (kin i).toNat < 50001) (i : S27x50001.Idx) :
    (inverse (F := F) kin kout i).toNat < 50001 := by
  unfold inverse
  exact Routing.scatter_forall _ _ (fun w : BitVec 32 => w.toNat < 50001) (fun _ _ _ hb => hb) _ _ _
    (fun _ => show (50000#32 : BitVec 32).toNat < 50001 by decide) h i

/-- What holds of every operand element and of the padding holds of a padded array's every element. -/
theorem pad_all {α : Type} {s t u : Shape} (lo hi mid : Fin s.rank → ℕ) (x : s.Idx → α) (v : u.Idx → α) (h : s.Pads lo hi mid t) (hu : 0 < u.numel)
    (P : α → Prop) (hx : ∀ i, P (x i)) (hv : ∀ i, P (v i)) (j : t.Idx) : P (pad t lo hi mid x v h hu j) := by
  unfold pad
  split
  · exact hx _
  · exact hv _

/-- The index list's words are below 50001 when the input points are. -/
theorem indexList_lt (kin kout : IVec S27x50000 32) (h : ∀ i, (kin i).toNat < 50001) (p : S1x1354752.Idx) :
    (indexList (F := F) kin kout p).toNat < 50001 := by
  have hi := inverse_lt (F := F) kin kout h
  unfold indexList
  generalize inverse (F := F) kin kout = I at hi
  refine pad_all _ _ _ _ _ pads_S50000x27_S50176x27_01760_000 h_S_ (fun w : BitVec 32 => w.toNat < 50001) (fun i => hi _)
    (fun _ => ?_) _
  show (50000#32 : BitVec 32).toNat < 50001
  decide

end Cert.Proof.Host

end
-- ==== Proof.Pairs.lean ====
/-
  What the precondition says of the map's words: every input and output point is between 0 and 50000, and two pairs of
  one offset with the same output point below 50000 are the same pair.
-/
module

public import proofs.«01_k».proof.Proof.Gen.Pre_pairs_of_the_map
public import Idealize.ShloMosaic.Lib.Pipeline.Value
public import Idealize.ShloMosaic.Lib.ReduceAll
public import Idealize.ShloMosaic.Lib.Routing.OpsPair
public import Idealize.ShloMosaic.Lib.ValueIdx
public import Idealize.ShloMosaic.Lib.StableHlo.Predicate

@[expose] public section

noncomputable section

namespace Cert.Proof.Pairs

open Cert.Pre_pairs_of_the_map Cert.Pre_pairs_of_the_map.Gen
open Idealize.ShloMosaic Idealize.ShloMosaic.ValueIdx

variable {F : FTy → Type} [FloatOps F]

/-- The `or` of two bits is 1 only when one of them is. -/
theorem ori_one (a b : BitVec 1) (h : IntOp.ori a b = 1#1) : a = 1#1 ∨ b = 1#1 := by
  revert h
  revert a b
  decide

/-- A word that compares at least 0 and at most 50000, both signed, is below 50001. -/
theorem word_lt (v : BitVec 32) (h : IntOp.andi (IntOp.cmpi .sge v 0#32) (IntOp.cmpi .sle v 50000#32) = 1#1) : v.toNat < 50001 := by
  obtain ⟨h0, h1⟩ := IntOp.andi_eq_one.1 h
  have n0 : ¬ v.toNat ≥ 2 ^ 31 := fun hb => by
    have : BitVec.sle 0#32 v = true := (StableHlo.Predicate.ofBool_eq_one_iff _).1 h0
    rw [BitVec.sle_eq_decide, decide_eq_true_eq, BitVec.toInt_eq_toNat_cond, BitVec.toInt_eq_toNat_cond] at this
    have := v.isLt
    simp only [BitVec.toNat_ofNat] at *
    omega
  have : BitVec.sle v 50000#32 = true := (StableHlo.Predicate.ofBool_eq_one_iff _).1 h1
  rw [BitVec.sle_eq_decide, decide_eq_true_eq, BitVec.toInt_eq_toNat_cond, BitVec.toInt_eq_toNat_cond] at this
  simp only [BitVec.toNat_ofNat] at *
  omega

/-- A word below 50001 compares at least 0 and at most 50000, both signed. -/
theorem word_in (v : BitVec 32) (h : v.toNat < 50001) : IntOp.andi (IntOp.cmpi .sge v 0#32) (IntOp.cmpi .sle v 50000#32) = 1#1 := by
  refine IntOp.andi_eq_one.2 ⟨(StableHlo.Predicate.ofBool_eq_one_iff _).2 ?_, (StableHlo.Predicate.ofBool_eq_one_iff _).2 ?_⟩
  · show BitVec.sle 0#32 v = true
    rw [BitVec.sle_eq_decide, decide_eq_true_eq, BitVec.toInt_eq_toNat_cond, BitVec.toInt_eq_toNat_cond]
    simp only [BitVec.toNat_ofNat] at *
    omega
  · show BitVec.sle v 50000#32 = true
    rw [BitVec.sle_eq_decide, decide_eq_true_eq, BitVec.toInt_eq_toNat_cond, BitVec.toInt_eq_toNat_cond]
    simp only [BitVec.toNat_ofNat] at *
    omega

/-- A lookup along the second axis reads, at two places of one row that carry the same word, the same element. -/
theorem lookup_same {α : Type} (x : S27x50001.Idx → α) (idx : IVec S27x50000x1 32) (k : Fin 27) (p p' : Fin 50000)
    (h : idx (ix3 k p (0 : Fin 1)) = idx (ix3 k p' (0 : Fin 1))) :
    Host.gather gather_S27x50001_S27x50000x1_S27x50000_n_1_0_0_1_2_11 x idx (ix2 k p)
      = Host.gather gather_S27x50001_S27x50000x1_S27x50000_n_1_0_0_1_2_11 x idx (ix2 k p') := by
  unfold Host.gather
  congr 1
  have hone : ∀ (q : Fin 50000), gather_S27x50001_S27x50000x1_S27x50000_n_1_0_0_1_2_11.siIdx (ix2 k q)
      ⟨List.idxOf (1 : Fin 2) gather_S27x50001_S27x50000x1_S27x50000_n_1_0_0_1_2_11.startIndexMap,
        List.idxOf_lt_length_iff.2 (List.mem_singleton.mpr rfl)⟩ = ix3 k q (0 : Fin 1) := fun q => by
    funext b
    refine Fin.ext ?_
    match b with
    | ⟨0, _⟩ => rfl
    | ⟨1, _⟩ => rfl
    | ⟨2, _⟩ => rfl
  funext a
  refine Fin.ext ?_
  match a with
  | ⟨0, _⟩ =>
    show GatherDims.start _ _ idx 0 + GatherDims.batchCoord _ _ 0 + GatherDims.offCoord _ _ 0
      = GatherDims.start _ _ idx 0 + GatherDims.batchCoord _ _ 0 + GatherDims.offCoord _ _ 0
    rw [GatherDims.start_batching _ _ _ _ (List.mem_singleton.mpr rfl), GatherDims.start_batching _ _ _ _ (List.mem_singleton.mpr rfl),
      GatherDims.offCoord_eq_zero _ _ _ (fun h => ((GatherDims.mem_sKept _ _).mp h).2 (List.mem_singleton.mpr rfl)),
      GatherDims.offCoord_eq_zero _ _ _ (fun h => ((GatherDims.mem_sKept _ _).mp h).2 (List.mem_singleton.mpr rfl))]
    unfold GatherDims.batchCoord
    rw [dif_pos (show (0 : Fin 2) ∈ gather_S27x50001_S27x50000x1_S27x50000_n_1_0_0_1_2_11.operandBatchingDims from List.mem_singleton.mpr rfl), dif_pos (show (0 : Fin 2) ∈ gather_S27x50001_S27x50000x1_S27x50000_n_1_0_0_1_2_11.operandBatchingDims from List.mem_singleton.mpr rfl)]
    rfl
  | ⟨1, _⟩ =>
    show GatherDims.start _ _ idx 1 + GatherDims.batchCoord _ _ 1 + GatherDims.offCoord _ _ 1
      = GatherDims.start _ _ idx 1 + GatherDims.batchCoord _ _ 1 + GatherDims.offCoord _ _ 1
    rw [GatherDims.batchCoord_eq_zero _ _ _ (by decide), GatherDims.batchCoord_eq_zero _ _ _ (by decide),
      GatherDims.offCoord_eq_zero _ _ _ (fun h => ((GatherDims.mem_sKept _ _).mp h).1 (List.mem_singleton.mpr rfl)),
      GatherDims.offCoord_eq_zero _ _ _ (fun h => ((GatherDims.mem_sKept _ _).mp h).1 (List.mem_singleton.mpr rfl))]
    unfold GatherDims.start
    rw [dif_pos (show (1 : Fin 2) ∈ gather_S27x50001_S27x50000x1_S27x50000_n_1_0_0_1_2_11.startIndexMap from List.mem_singleton.mpr rfl), dif_pos (show (1 : Fin 2) ∈ gather_S27x50001_S27x50000x1_S27x50000_n_1_0_0_1_2_11.startIndexMap from List.mem_singleton.mpr rfl),
      hone p, hone p', h]

/-- jnp's lookup along the second axis, the places all between 0 and 50000: two places of one row that carry the same word read
    the same element. -/
theorem along_same (x : IVec S27x50001 32) (a : IVec S27x50000 32) (ha : ∀ i, (a i).toNat < 50001) (k : Fin 27) (p p' : Fin 50000)
    (h : a (ix2 k p) = a (ix2 k p')) : fn_take_along_axis (F := F) x a (ix2 k p) = fn_take_along_axis (F := F) x a (ix2 k p') := by
  have hw : ∀ c z : IVec S27x50000 32, (∀ i, z i = 0#32) → select (cmpi .slt a z) c a = a := fun c z hz => by
    funext i
    show Scalar.select (IntOp.cmpi .slt (a i) (z i)) (c i) (a i) = a i
    rw [hz i]
    exact Routing.wrap_of_lt _ _ (by have := ha i; omega)
  simp only [fn_take_along_axis]
  rw [hw _ (broadcastInDim S27x50000 ![] bcast_S_S27x50000 (constantI S_ 32 0#32)) fun _ => rfl]
  have hc : ∀ q, shapeCast S27x50000x1 a shapeCasts_S27x50000_S27x50000x1 (ix3 k q (0 : Fin 1)) = a (ix2 k q) := fun q =>
    shapeCast_apply a _ _ _ (by
      rw [Shape.rowMajor_val_two, Shape.rowMajor_val_three]
      show k.val * 50000 + q.val = (k.val * 50000 + q.val) * 1 + 0
      omega)
  have hr : ∀ j, Host.reduce IntOp.andi (andi (cmpi .sge (shapeCast S27x50000x1 a shapeCasts_S27x50000_S27x50000x1) (broadcastInDim S27x50000x1 ![] bcast_S_S27x50000x1 (constantI S_ 32 0#32)))
      (cmpi .sle (shapeCast S27x50000x1 a shapeCasts_S27x50000_S27x50000x1) (broadcastInDim S27x50000x1 ![0, 1, 2] bcast_S1x1x1_S27x50000x1_0_1_2 (broadcastInDim S1x1x1 ![2] bcast_S1_S1x1x1_2 (constantI S1 32 50000#32)))))
      (constantI S_ 1 1#1) reducesTo_S27x50000x1_S27x50000_d2 h_S_ j = 1#1 := fun j => by
    refine Host.reduce_andi_one _ _ _ _ _ rfl fun i => ?_
    obtain ⟨i', hi'⟩ : ∃ i', shapeCast S27x50000x1 a shapeCasts_S27x50000_S27x50000x1 i = a i' := ⟨_, rfl⟩
    show IntOp.andi (IntOp.cmpi .sge (shapeCast S27x50000x1 a shapeCasts_S27x50000_S27x50000x1 i) 0#32) (IntOp.cmpi .sle (shapeCast S27x50000x1 a shapeCasts_S27x50000_S27x50000x1 i) 50000#32) = 1#1
    rw [hi']
    exact word_in _ (ha i')
  show Scalar.select _ _ _ = Scalar.select _ _ _
  rw [hr, hr, select_one, select_one]
  exact lookup_same x _ k p p' (by rw [hc, hc, h])

/-- What the precondition says: the ranges of both maps, and that no output point below 50000 is met twice at one offset. -/
theorem pairs (x : FVec F S50000x128 .f32) (w : FVec F S27x128x128 .f32) (b : FVec F S128 .f32) (kin kout : IVec S27x50000 32)
    (h : fn (F := F) x w b kin kout = fun _ => 1#1) :
    (∀ i, (kin i).toNat < 50001) ∧ (∀ i, (kout i).toNat < 50001)
      ∧ ∀ (k : Fin 27) (p p' : Fin 50000), (kout (ix2 k p)).toNat < 50000 → kout (ix2 k p) = kout (ix2 k p') → p = p' := by
  haveI : Subsingleton S_.Idx := ⟨fun a b => funext fun i => i.elim0⟩
  have e := congrFun h ix0
  simp only [fn, fn_part1, fn_part2] at e
  obtain ⟨e1, e2⟩ := IntOp.andi_eq_one.1 e
  obtain ⟨e3, e4⟩ := IntOp.andi_eq_one.1 e1
  have r3 := Host.reduce_andi_all _ _ _ _ _ e3
  have r4 := Host.reduce_andi_all _ _ _ _ _ e4
  have r2 := Host.reduce_andi_all _ _ _ _ _ e2
  have hin : ∀ i, (kin i).toNat < 50001 := fun i => word_lt _ (r3 i)
  have hout : ∀ i, (kout i).toNat < 50001 := fun i => word_lt _ (r4 i)
  refine ⟨hin, hout, fun k p p' hlt hpp => ?_⟩
  have hv : ∀ q, kout (ix2 k q) = kout (ix2 k p) → fn_take_along_axis (F := F) _ kout (ix2 k q) = BitVec.ofNat 32 q.val := fun q hq => by
    have o := r2 (ix2 k q)
    rcases ori_one _ _ o with o | o
    · refine (StableHlo.Predicate.cmpi_eq_iff.1 o).trans ?_
      rfl
    · have : kout (ix2 k q) = 50000#32 := StableHlo.Predicate.cmpi_eq_iff.1 o
      rw [← hq, this] at hlt
      exact absurd hlt (by decide)
  have e := (hv p rfl).symm.trans ((along_same _ kout hout k p p' hpp).trans (hv p' hpp.symm))
  have e' := congrArg BitVec.toNat e
  simp only [BitVec.toNat_ofNat] at e'
  have := p.isLt
  have := p'.isLt
  exact Fin.ext (by omega)

end Cert.Proof.Pairs

end
-- ==== Proof.Frames.lean ====
/-
  The three frame claims: the kernel's, its idealization's and the reference's.
-/
module

public import proofs.«01_k».proof.Defs
public import proofs.«01_k».proof.Proof.Run
public import proofs.«01_k».proof.Proof.HostValue
public import proofs.«01_k».proof.Proof.Pairs
public import proofs.«01_k».proof.Proof.Gen.Kernel
public import proofs.«01_k».proof.Proof.Gen.ReferenceIdeal
public import proofs.«01_k».proof.Proof.Gen.ReferenceIdeal.Run

@[expose] public section

noncomputable section

namespace Cert.Proof.Frames

open Cert.KernelIdeal Cert.KernelIdeal.Gen
open Idealize.ShloMosaic Idealize.ShloMosaic.TcCoe Idealize.SL.Sem
open Cert.Proof.Host Cert.Proof.Run

variable {F : FTy → Type} [FloatOps F]
variable (m : (ℓ : Loc nD τ sig) → Buf (Elt F) ℓ)

/-- A memory whose arguments satisfy the precondition: the printed predicate all ones, on every device. -/
def Holds : Prop :=
  ∀ c : Dev nD, Cert.Pre_pairs_of_the_map.fn (F := F) (m ((c : Thread nD τ).loc main_arg0)) (m ((c : Thread nD τ).loc main_arg1))
    (m ((c : Thread nD τ).loc main_arg2)) (m ((c : Thread nD τ).loc main_arg3)) (m ((c : Thread nD τ).loc main_arg4)) = fun _ => 1#1

/-- Under the precondition the index list handed to the gather holds words below 50001. -/
theorem list_lt (h : Holds m) (d : Dev nD) (p : S1x1354752.Idx) : (fi m d p).toNat < 50001 := by
  rw [fi_eq]
  exact indexList_lt _ _ (Pairs.pairs _ _ _ _ _ (h d)).1 p

/-- A buffer of the TensorCore that the host scopes nowhere is among those the run accounts for. -/
theorem mem_uc (r : Ref sig .tc) (h : (Proc.devRef .tc r : DevRef τ sig).isScoped = false) : (Proc.devRef .tc r : DevRef τ sig) ∈ Product.ucRefs :=
  Finset.mem_filter.mpr ⟨StableHlo.devRef_mem_tcRefs r, by rw [h]; exact Bool.false_ne_true⟩

/-- The run ends with the arguments as they were launched. -/
theorem args (r : PUnit × MemSt nD τ sig (Elt F)) (h : Ends m r) (c : Dev nD) :
    r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  ⟨(h.1 c _ (mem_uc _ rfl)).trans (W5_arg m c _ (by decide) (by decide) (by decide) (by decide) (by decide)),
    (h.1 c _ (mem_uc _ rfl)).trans (W5_arg m c _ (by decide) (by decide) (by decide) (by decide) (by decide)),
    (h.1 c _ (mem_uc _ rfl)).trans (W5_arg m c _ (by decide) (by decide) (by decide) (by decide) (by decide)),
    (h.1 c _ (mem_uc _ rfl)).trans (W5_arg m c _ (by decide) (by decide) (by decide) (by decide) (by decide)),
    (h.1 c _ (mem_uc _ rfl)).trans (W5_arg m c _ (by decide) (by decide) (by decide) (by decide) (by decide))⟩

/-- From a memory whose arguments satisfy the precondition every fair execution ends, the arguments unchanged and every counter at
    zero. -/
theorem frame [∀ e, Nonempty (Elt F e)] (ρ : Dev nD → PrngReg) (hp : Holds m) :
    θ_run (Cert.KernelIdeal.defs (F := F)) (Cert.KernelIdeal.threads (F := F)) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 :=
  (θ_run Cert.KernelIdeal.defs _ _).mono (fun r h => ⟨args m r h, h.2⟩) (run_main m ρ (list_lt m hp))

/-- The gather kernel's text is its idealization's. -/
theorem gather_same : @Cert.Kernel.cc0_gather_kernel F _ = @Cert.KernelIdeal.cc0_gather_kernel F _ := by
  unfold Cert.Kernel.cc0_gather_kernel Cert.KernelIdeal.cc0_gather_kernel
  funext i x hx l hl o ho a ha
  rfl

/-- What a tile runs for the gather is what it runs in the idealization. -/
theorem tile_same (c : Fin τ.nSC) (s : Fin τ.nSub) : @Cert.Kernel.defs₀ F _ Cert.Kernel.Gen.facts (.scVector c s) (0 : Fin 2) PUnit.unit
    = @Cert.KernelIdeal.defs₀ F _ Cert.KernelIdeal.Gen.facts (.scVector c s) (0 : Fin 2) PUnit.unit := by
  simp only [Cert.Kernel.defs₀, Cert.KernelIdeal.defs₀]
  unfold SparseCore.onTile
  split
  · rw [gather_same]
    rfl
  · rfl

/-- The two programs' tables of kernels are the same, -/
theorem table_same : @Cert.Kernel.defs₀ F _ Cert.Kernel.Gen.facts = @Cert.KernelIdeal.defs₀ F _ Cert.KernelIdeal.Gen.facts := by
  funext p l a
  match p, l, a with
  | .scVector c s, (0 : Fin 2), PUnit.unit => exact tile_same c s
  | .tc, (1 : Fin 2), (t, s) => rfl
  | .tc, (0 : Fin 2), _ => rfl
  | .scVector c s, (1 : Fin 2), _ => rfl
  | .scScalar c, (0 : Fin 2), _ => rfl
  | .scScalar c, (1 : Fin 2), _ => rfl

/-- and so are their tables of bodies. -/
theorem defs_same : @Cert.Kernel.defs F _ Cert.Kernel.Gen.facts = @Cert.KernelIdeal.defs F _ Cert.KernelIdeal.Gen.facts := by
  unfold Cert.Kernel.defs Cert.KernelIdeal.defs
  rw [table_same]
  rfl

/-- The frame over any table of bodies that is the idealization's. -/
theorem frame_of [∀ e, Nonempty (Elt F e)] (D : Defs nD τ sig (Elt F) (SparseCore.Sig (Pipeline.Sig Λ₀ (Fin 1) fun p => (pcfgs (F := F) p).Adm) 1))
    (hD : D = Cert.KernelIdeal.defs) (ρ : Dev nD → PrngReg) (hp : Holds m) :
    θ_run D (Cert.KernelIdeal.threads (F := F)) ⟨m, fun _ => 0, ρ⟩ fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)) ∧ r.2.sem = fun _ => 0 := by
  subst hD
  exact frame m ρ hp

set_option maxHeartbeats 4000000 in
/-- The kernel ends every fair execution, its arguments unchanged and every counter at zero. -/
theorem frame_kernel : Cert.quiescent_Kernel := fun m ρ hp => frame_of (F := Bits) m Cert.Kernel.defs defs_same ρ hp

/-- So does its idealization. -/
theorem frame_ideal : Cert.quiescent_KernelIdeal := fun m ρ hp => frame (F := Ideal) m ρ hp

/-- So does the reference, which has no counters. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof.Frames

end
-- ==== Proof.Inverse.lean ====
/-
  The index list read at a position: entry 27 n + k of the list is the input point that offset k pairs with output point
  n, and 50000, the zero row's number, if it pairs none.
-/
module

public import proofs.«01_k».proof.Proof.HostValue
public import Idealize.ShloMosaic.Lib.Pipeline.Value
public import Idealize.ShloMosaic.Lib.KernelVsHost

@[expose] public section

noncomputable section

namespace Cert.Proof.Inverse

open Cert.KernelIdeal Cert.KernelIdeal.Gen
open Cert.Proof.Host
open Idealize.ShloMosaic hiding ix1 ix2 ix3
open Idealize.ShloMosaic.ValueIdx Idealize.ShloMosaic.StableHlo
open Idealize.ShloMosaic.TcCoe

variable {F : FTy → Type} [FloatOps F]

/-! ## Where the scatter writes -/

theorem offset_at (k : Fin 27) (p : Fin 50000) : offsetOf (ix2 k p) = BitVec.ofNat 32 k.val := by
  unfold offsetOf
  refine (broadcastInDim_apply _ _ _ (ix2 k p) (ix2 k (0 : Fin 1)) (fun a => by match a with | 0 => rfl | 1 => rfl)).trans ?_
  have e : broadcastInDim S27x1 ![0] bcast_S27_S27x1_0 (iotaInDim S27 32 0) (ix2 k (0 : Fin 1)) = BitVec.ofNat 32 k.val :=
    (broadcastInDim_apply _ _ _ (ix2 k (0 : Fin 1)) (ix1 k) (fun a => by match a with | 0 => rfl)).trans rfl
  have z : broadcastInDim S27x1 ![] bcast_S_S27x1 (constantI S_ 32 0#32) (ix2 k (0 : Fin 1)) = 0#32 := broadcastInDim_scalar_apply _ _ _
  show Scalar.select (IntOp.cmpi .slt (broadcastInDim S27x1 ![0] bcast_S27_S27x1_0 (iotaInDim S27 32 0) (ix2 k (0 : Fin 1)))
    (broadcastInDim S27x1 ![] bcast_S_S27x1 (constantI S_ 32 0#32) (ix2 k (0 : Fin 1)))) _
    (broadcastInDim S27x1 ![0] bcast_S27_S27x1_0 (iotaInDim S27 32 0) (ix2 k (0 : Fin 1))) = _
  rw [e, z]
  refine Routing.wrap_of_lt _ _ ?_
  rw [BitVec.toNat_ofNat]
  have := k.isLt
  omega

theorem point_at (kout : IVec S27x50000 32) (k : Fin 27) (p : Fin 50000) (h : (kout (ix2 k p)).toNat < 50001) :
    pointOf kout (ix2 k p) = kout (ix2 k p) := by
  unfold pointOf
  have z : broadcastInDim S27x50000 ![] bcast_S_S27x50000 (constantI S_ 32 0#32) (ix2 k p) = 0#32 := broadcastInDim_scalar_apply _ _ _
  show Scalar.select (IntOp.cmpi .slt (kout (ix2 k p)) (broadcastInDim S27x50000 ![] bcast_S_S27x50000 (constantI S_ 32 0#32) (ix2 k p))) _
    (kout (ix2 k p)) = _
  rw [z]
  exact Routing.wrap_of_lt _ _ (by omega)

theorem places_offset (kout : IVec S27x50000 32) (k : Fin 27) (p : Fin 50000) :
    places (F := F) kout (ix3 k p (0 : Fin 2)) = BitVec.ofNat 32 k.val := by
  unfold places joinIdx
  refine (concatenate_pair_apply_left (s₁ := S27x50000x1) (s₂ := S27x50000x1) 2 _ _ _ (ix3 k p (0 : Fin 2)) rfl (ix3 k p (0 : Fin 1)) (fun b => by match b with | 0 => rfl | 1 => rfl | 2 => rfl)).trans ?_
  exact (broadcastInDim_apply _ _ _ (ix3 k p (0 : Fin 1)) (ix2 k p) (fun a => by match a with | 0 => rfl | 1 => rfl)).trans (offset_at k p)

theorem places_point (kout : IVec S27x50000 32) (k : Fin 27) (p : Fin 50000) (h : (kout (ix2 k p)).toNat < 50001) :
    places (F := F) kout (ix3 k p (1 : Fin 2)) = kout (ix2 k p) := by
  unfold places joinIdx
  refine (concatenate_pair_apply_right (s₁ := S27x50000x1) (s₂ := S27x50000x1) 2 _ _ _ (ix3 k p (1 : Fin 2)) rfl rfl (ix3 k p (0 : Fin 1))
    (fun b hb => by match b with | 0 => rfl | 1 => rfl | 2 => exact absurd rfl hb) rfl).trans ?_
  exact (broadcastInDim_apply _ _ _ (ix3 k p (0 : Fin 1)) (ix2 k p) (fun a => by match a with | 0 => rfl | 1 => rfl)).trans (point_at kout k p h)

/-- The scatter's update `(k, p)` lands on `(k', n)` when `k` is `k'` and the pair's output point is `n`. -/
theorem lands (kout : IVec S27x50000 32) (h : ∀ i, (kout i).toNat < 50001) (k : Fin 27) (p : Fin 50000) (k' : Fin 27) (n : Fin 50001) :
    scatter_S27x50001_S27x50000x2_S27x50000_n_01_01_2.resultIdx? (ix2 k p) (places (F := F) kout) = some (ix2 k' n)
      ↔ k = k' ∧ (kout (ix2 k p)).toNat = n.val := by
  have hp := h (ix2 k p)
  refine (Routing.scatter_lands2 scatter_S27x50001_S27x50000x2_S27x50000_n_01_01_2 rfl rfl rfl (places (F := F) kout) k p k' n).trans ?_
  have a0 : (places (F := F) kout (ix3 k p (0 : Fin 2))).toInt = (k.val : Int) := by
    rw [places_offset, StableHlo.Predicate.toInt_eq_toNat_of_lt] <;> rw [BitVec.toNat_ofNat] <;> have := k.isLt <;> omega
  have a1 : (places (F := F) kout (ix3 k p (1 : Fin 2))).toInt = ((kout (ix2 k p)).toNat : Int) := by
    rw [places_point kout k p hp, StableHlo.Predicate.toInt_eq_toNat_of_lt]; omega
  constructor
  · rintro ⟨q0, q1⟩
    refine ⟨Fin.ext ?_, ?_⟩
    · have := a0.symm.trans q0; omega
    · have := a1.symm.trans q1; omega
  · rintro ⟨rfl, q⟩
    exact ⟨a0, a1.trans (by rw [q])⟩

/-! ## The inverse map and the index list -/

section
variable (kin kout : IVec S27x50000 32) (h : ∀ i, (kout i).toNat < 50001)
  (hu : ∀ (k : Fin 27) (p p' : Fin 50000), (kout (ix2 k p)).toNat < 50000 → kout (ix2 k p) = kout (ix2 k p') → p = p')
include h

include hu in
theorem inverse_hit (k : Fin 27) (p : Fin 50000) (n : Fin 50001) (hn : n.val < 50000) (hp : (kout (ix2 k p)).toNat = n.val) :
    inverse (F := F) kin kout (ix2 k n) = kin (ix2 k p) := by
  unfold inverse
  refine Routing.scatter_set_hit _ _ _ _ _ _ (fun j hj => ?_) (ix2 k p) ((lands kout h k p k n).2 ⟨rfl, hp⟩)
  obtain ⟨k', p', rfl⟩ : ∃ (k' : Fin 27) (p' : Fin 50000), j = (ix2 k' p' : S27x50000.Idx) := ⟨_, _, ValueIdx.eq_ix2 (n0 := 27) (n1 := 50000) j⟩
  obtain ⟨rfl, e⟩ := (lands kout h k' p' k n).1 hj
  rw [hu k' p p' (by omega) (BitVec.eq_of_toNat_eq (by omega))]

theorem inverse_miss (k : Fin 27) (n : Fin 50001) (hp : ∀ p : Fin 50000, (kout (ix2 k p)).toNat ≠ n.val) :
    inverse (F := F) kin kout (ix2 k n) = 50000#32 := by
  unfold inverse
  refine (Routing.scatter_set_miss _ _ _ _ _ (fun j hj => ?_)).trans (broadcastInDim_scalar_apply _ _ _)
  obtain ⟨k', p', rfl⟩ : ∃ (k' : Fin 27) (p' : Fin 50000), j = (ix2 k' p' : S27x50000.Idx) := ⟨_, _, ValueIdx.eq_ix2 (n0 := 27) (n1 := 50000) j⟩
  obtain ⟨rfl, e⟩ := (lands kout h k' p' k n).1 hj
  exact hp p' e
end

/-- Entry `27 n + k` of the list is the inverse map at `(k, n)`, for an output point `n`. -/
theorem list_at (kin kout : IVec S27x50000 32) (k : Fin 27) (n : Fin 50000) (q : Fin 1354752) (hq : q.val = n.val * 27 + k.val) :
    indexList (F := F) kin kout (ix2 (0 : Fin 1) q) = inverse (F := F) kin kout (ix2 k (⟨n.val, by have := n.isLt; omega⟩ : Fin 50001)) := by
  unfold indexList
  have hn := n.isLt
  refine (shapeCast_apply _ _ (ix2 (0 : Fin 1) q) (ix2 (⟨n.val, by omega⟩ : Fin 50176) k) ?_).trans ?_
  · rw [Shape.rowMajor_val_two, Shape.rowMajor_val_two]
    show n.val * 27 + k.val = 0 * 1354752 + q.val
    omega
  refine (pad_apply_of_inside _ _ _ _ _ _ _ (ix2 (⟨n.val, by omega⟩ : Fin 50176) k) (ix2 n k) (fun a => by
    match a with
    | 0 => show n.val = 0 + n.val * (0 + 1); omega
    | 1 => show k.val = 0 + k.val * (0 + 1); omega)).trans ?_
  refine (transpose_apply _ _ _ (ix2 n k) (ix2 k n) (fun b => by match b with | 0 => rfl | 1 => rfl)).trans ?_
  exact extractStridedSlice_apply _ _ _ (ix2 k n) _ (fun a => by
    match a with
    | 0 => show k.val = 0 + k.val; omega
    | 1 => show n.val = 0 + n.val; omega)

/-! ## The padded rows -/

theorem padded_row (x : FVec F S50000x128 .f32) (r : Fin 50001) (hr : r.val < 50000) (c : Fin 128) :
    padded x (ix2 r c) = x (ix2 (⟨r.val, hr⟩ : Fin 50000) c) := by
  unfold padded joinRows
  exact concatenate_pair_apply_left (s₁ := S50000x128) (s₂ := S1x128) 0 _ _ _ (ix2 r c) rfl (ix2 (⟨r.val, hr⟩ : Fin 50000) c) (fun b => by match b with | 0 => rfl | 1 => rfl)

theorem padded_last (x : FVec Ideal S50000x128 .f32) (r : Fin 50001) (hr : r.val = 50000) (c : Fin 128) :
    padded x (ix2 r c) = (0 : EReal) := by
  unfold padded joinRows
  refine (concatenate_pair_apply_right (s₁ := S50000x128) (s₂ := S1x128) 0 _ _ _ (ix2 r c) rfl rfl (ix2 (0 : Fin 1) c)
    (fun b hb => by match b with | 0 => exact absurd rfl hb | 1 => rfl) (by show 0 + 50000 = r.val; omega)).trans ?_
  refine (broadcastInDim_scalar_apply _ _ _).trans ?_
  show Ideal.ofBits .f32 0x00000000#32 = 0
  exact Ideal.ofBits_zero_f32

end Cert.Proof.Inverse

end
-- ==== Proof.ProductValue.lean ====
/-
  The product's value over the reals: the element at row n and column d of the call's result is the sum over the 3456
  stacked inputs of feature times weight, plus the bias at d.
-/
module

public import proofs.«01_k».proof.Proof.Region
public import Idealize.ShloMosaic.Lib.MatmulPlain
public import Idealize.ShloMosaic.Lib.Pipeline.Value

@[expose] public section

noncomputable section

namespace Cert.Proof.Product

open Cert.KernelIdeal Cert.KernelIdeal.Gen
open Idealize.ShloMosaic hiding ix2 ix3
open Idealize.ShloMosaic.ValueIdx
open Idealize.ShloMosaic.TcCoe
open Idealize.ShloMosaic.Pipeline (Dat Cfg Window)
open scoped BigOperators

/-- Feature times weight summed over the stacked inputs, plus the bias. -/
def rowSum (f : FVec Ideal S50176x3456 .f32) (w : FVec Ideal S3456x128 .f32) (a : FVec Ideal S1x128 .f32) : FVec Ideal S50176x128 .f32 :=
  fun i => (∑ k : Fin 3456, f (ix2 (i 0) k) * w (ix2 k (i 1))) + a (ix2 0 (i 1))

/-- One block of the product at an element. -/
theorem pay_at (f : FVec Ideal S448x3456 .f32) (w : FVec Ideal S3456x128 .f32) (a : FVec Ideal S1x128 .f32) (r : Fin 448) (d : Fin 128) :
    k1_pay1 f w a (ix2 r d) = (∑ k : Fin 3456, f (ix2 r k) * w (ix2 k d)) + a (ix2 0 d) := by
  have hf : shapeCast S448x3456 f shapeCasts_S448x3456_S448x3456 = f := funext fun i => shapeCast_apply f _ i i rfl
  have hw : shapeCast S3456x128 w shapeCasts_S3456x128_S3456x128 = w := funext fun i => shapeCast_apply w _ i i rfl
  have ha : shapeCast S1x128 a shapeCasts_S1x128_S1x128 = a := funext fun i => shapeCast_apply a _ i i rfl
  unfold k1_pay1
  rw [hf, hw, ha]
  show matmul (DotDims.plain 448 3456 128) none f w (constant S448x128 .f32 0x00000000#32) (ix2 r d) + broadcastTo S448x128 a broadcasts_S1x128_S448x128 (ix2 r d) = _
  refine congrArg₂ (· + ·) ?_ ?_
  · refine (Ideal.matmul_plain_apply none f w _ r d).trans ?_
    show Ideal.ofBits .f32 0x00000000#32 + _ = _
    rw [Ideal.ofBits_zero_f32, zero_add]
  · exact broadcastTo_apply a _ (ix2 r d) (ix2 0 d) (fun b => by match b with | 0 => rfl | 1 => rfl)

theorem idx_feat : ∀ t, win1_0.index t = ![(grid1.coords t 0).val, 0] := by decide +kernel
theorem idx_wts : ∀ t, win1_1.index t = ![0, 0] := by decide +kernel
theorem idx_bias : ∀ t, win1_2.index t = ![0, 0] := by decide +kernel
theorem idx_out : ∀ t, win1_3.index t = ![(grid1.coords t 0).val, 0] := by decide +kernel

variable (V : (c : Dev nD) → (b : Ref sig .tc) → Buf (Elt Ideal) ((c : Thread nD τ).loc b)) (b : ℕ)

/-- The call's result, whole. -/
theorem product_eq (c : Dev nD) : product V b c = rowSum (V c main_v25) (V c main_v26) (V c main_v27) := by
  unfold product
  refine (dat V b c).arrAt_eq_of_covers 3 _ (by decide +kernel) fun t hf y => ?_
  blk_simp
  obtain ⟨r, d, rfl⟩ : ∃ (r : Fin 448) (d : Fin 128), y = (ix2 r d : S448x128.Idx) := ⟨_, _, ValueIdx.eq_ix2 (n0 := 448) (n1 := 128) y⟩
  refine (pay_at (feat V c t) (wts V c t) (bias V c t) r d).trans ?_
  have e0 : ((win1_3.blk t).view.emb (ix2 r d : S448x128.Idx) 0).val = (grid1.coords t 0).val * 448 + r.val := by blk_simp [idx_out]; rfl
  have e1 : ((win1_3.blk t).view.emb (ix2 r d : S448x128.Idx) 1).val = d.val := by blk_simp [idx_out]; rfl
  unfold rowSum
  refine congrArg₂ (· + ·) (Finset.sum_congr rfl fun k _ => congrArg₂ (· * ·) ?_ ?_) ?_
  · show V c main_v25 ((win1_0.blk t).view.emb _) = V c main_v25 _
    blk_ext [idx_feat]
    exact e0.symm
  · show V c main_v26 ((win1_1.blk t).view.emb _) = V c main_v26 _
    blk_ext [idx_wts]
    exact e1.symm
  · show V c main_v27 ((win1_2.blk t).view.emb _) = V c main_v27 _
    blk_ext [idx_bias]
    exact e1.symm

end Cert.Proof.Product

end
-- ==== Proof.Result.lean ====
/-
  The kernel program's result over the reals, read at output point n and channel d: over the 27 offsets and the 128
  input channels, the sum of the paired input point's feature times the weight, plus the bias.
-/
module

public import proofs.«01_k».proof.Proof.Inverse
public import proofs.«01_k».proof.Proof.ProductValue

@[expose] public section

noncomputable section

namespace Cert.Proof.Result

open Cert.KernelIdeal Cert.KernelIdeal.Gen
open Cert.Proof.Host Cert.Proof.Inverse Cert.Proof.Product
open Cert.Proof.Tile (gVal rowOf)
open Idealize.ShloMosaic hiding ix1 ix2 ix3
open Idealize.ShloMosaic.ValueIdx Idealize.ShloMosaic.StableHlo
open Idealize.ShloMosaic.TcCoe
open scoped BigOperators

/-! ## The host's arrays after the gather -/

section
variable {F : FTy → Type} [FloatOps F] (m : (ℓ : Loc nD τ sig) → Buf (Elt F) ℓ)

theorem feat_eq (d : Dev nD) : V3 m d main_v25 = shapeCast S50176x3456 (gVal (fx m d) (fi m d)) shapeCasts_S1354752x128_S50176x3456 := by
  unfold V3 W3 W2
  simp only [opsMid, TRef.binary, TRef.nullary, TRef.ternary, TRef.unary, TRef.toBuf, TRef.ofBuf, cast_eq]
  after_results_simp <;> rfl

theorem wts_eq (d : Dev nD) : V3 m d main_v26 = shapeCast S3456x128 (m ((d : Thread nD τ).loc main_arg1)) shapeCasts_S27x128x128_S3456x128 := by
  have e : W2 m d (Proc.devRef .tc main_arg1) = m ((d : Thread nD τ).loc main_arg1) := by
    unfold W2; rw [Function.update_of_ne (devRef_ne_of_ne (by decide))]
    unfold W1; rw [opsIn_keep _ _ (by decide)]; rfl
  rw [← e]
  unfold V3 W3
  generalize W2 m d = W
  simp only [opsMid, TRef.binary, TRef.nullary, TRef.ternary, TRef.unary, TRef.toBuf, TRef.ofBuf, cast_eq]
  after_results_simp <;> rfl

theorem bias_eq (d : Dev nD) : V3 m d main_v27 = shapeCast S1x128 (m ((d : Thread nD τ).loc main_arg2)) shapeCasts_S128_S1x128 := by
  have e : W2 m d (Proc.devRef .tc main_arg2) = m ((d : Thread nD τ).loc main_arg2) := by
    unfold W2; rw [Function.update_of_ne (devRef_ne_of_ne (by decide))]
    unfold W1; rw [opsIn_keep _ _ (by decide)]; rfl
  rw [← e]
  unfold V3 W3
  generalize W2 m d = W
  simp only [opsMid, TRef.binary, TRef.nullary, TRef.ternary, TRef.unary, TRef.toBuf, TRef.ofBuf, cast_eq]
  after_results_simp <;> rfl

theorem out_eq (d : Dev nD) : W5 m d (Proc.devRef .tc main_v29)
    = extractStridedSlice S50000x128 ![0, 0] (product (V3 m) (8 * 1) d) slices_S50176x128_S50000x128_0_0 := by
  unfold W5 W4
  simp only [opsOut, TRef.binary, TRef.nullary, TRef.ternary, TRef.unary, TRef.toBuf, TRef.ofBuf, cast_eq]
  after_results_simp <;> rfl
end

/-! ## The result at an element -/

/-- The input point offset `k` pairs with output point `n`, as a row of the padded rows. -/
def source (kin kout : IVec S27x50000 32) (k : Fin 27) (n : Fin 50000) : Fin 50001 :=
  rowOf (inverse (F := Ideal) kin kout (ix2 k (⟨n.val, by have := n.isLt; omega⟩ : Fin 50001)))

/-- The sum over offsets and input channels, plus the bias. -/
def conv (x : FVec Ideal S50000x128 .f32) (w : FVec Ideal S27x128x128 .f32) (a : FVec Ideal S128 .f32) (kin kout : IVec S27x50000 32)
    (n : Fin 50000) (d : Fin 128) : EReal :=
  (∑ k : Fin 27, ∑ c : Fin 128, padded x (ix2 (source kin kout k n) c) * w (ix3 k c d)) + a (ix1 d)

variable (m : (ℓ : Loc nD τ sig) → Buf (Elt Ideal) ℓ)

/-- The stacked features of output point `n` at offset `k` and channel `c`. -/
theorem feat_at (e : Dev nD) (n : Fin 50000) (k : Fin 27) (c : Fin 128) (j : Fin 3456) (hj : j.val = c.val + 128 * k.val) :
    V3 m e main_v25 (ix2 (⟨n.val, by have := n.isLt; omega⟩ : Fin 50176) j)
      = padded (F := Ideal) (m ((e : Thread nD τ).loc main_arg0)) (ix2 (source (m ((e : Thread nD τ).loc main_arg3)) (m ((e : Thread nD τ).loc main_arg4)) k n) c) := by
  have hn := n.isLt
  have hk := k.isLt
  rw [feat_eq, fx_eq, fi_eq]
  refine (shapeCast_apply _ _ (ix2 (⟨n.val, by omega⟩ : Fin 50176) j) (ix2 (⟨n.val * 27 + k.val, by omega⟩ : Fin 1354752) c) ?_).trans ?_
  · rw [Shape.rowMajor_val_two, Shape.rowMajor_val_two]
    show (n.val * 27 + k.val) * 128 + c.val = n.val * 3456 + j.val
    omega
  · unfold gVal source
    rw [← list_at (F := Ideal) _ _ k n (⟨n.val * 27 + k.val, by omega⟩ : Fin 1354752) rfl]

theorem wts_at (e : Dev nD) (k : Fin 27) (c d : Fin 128) (j : Fin 3456) (hj : j.val = c.val + 128 * k.val) :
    V3 m e main_v26 (ix2 j d) = m ((e : Thread nD τ).loc main_arg1) (ix3 k c d) := by
  rw [wts_eq]
  refine shapeCast_apply _ _ (ix2 j d) (ix3 k c d) ?_
  rw [Shape.rowMajor_val_two, Shape.rowMajor_val_three]
  show (k.val * 128 + c.val) * 128 + d.val = j.val * 128 + d.val
  omega

theorem bias_at (e : Dev nD) (d : Fin 128) : V3 m e main_v27 (ix2 (0 : Fin 1) d) = m ((e : Thread nD τ).loc main_arg2) (ix1 d) := by
  rw [bias_eq]
  refine shapeCast_apply _ _ (ix2 (0 : Fin 1) d) (ix1 d) ?_
  rw [Shape.rowMajor_val_two, Shape.rowMajor_val_one]
  show d.val = 0 * 128 + d.val
  omega

/-- The kernel program's result at output point `n` and channel `d`. -/
theorem out_at (e : Dev nD) (n : Fin 50000) (d : Fin 128) : W5 m e (Proc.devRef .tc main_v29) (ix2 n d)
    = conv (m ((e : Thread nD τ).loc main_arg0)) (m ((e : Thread nD τ).loc main_arg1)) (m ((e : Thread nD τ).loc main_arg2))
      (m ((e : Thread nD τ).loc main_arg3)) (m ((e : Thread nD τ).loc main_arg4)) n d := by
  have hn := n.isLt
  rw [out_eq, product_eq]
  refine (extractStridedSlice_apply _ _ _ (ix2 n d) (ix2 (⟨n.val, by omega⟩ : Fin 50176) d) (fun a => by
    match a with
    | 0 => show n.val = 0 + n.val; omega
    | 1 => show d.val = 0 + d.val; omega)).trans ?_
  unfold rowSum conv
  refine congrArg₂ (· + ·) ?_ (bias_at m e d)
  rw [← Fintype.sum_prod_type' (f := fun (k : Fin 27) (c : Fin 128) => _ * _), ← Equiv.sum_comp (finProdFinEquiv (m := 27) (n := 128))]
  refine Finset.sum_congr rfl fun q _ => ?_
  exact congrArg₂ (· * ·) (feat_at m e n q.1 q.2 _ rfl) (wts_at m e q.1 q.2 d _ rfl)

end Cert.Proof.Result

end
-- ==== Proof.RefValue.lean ====
/-
  The reference's result over the reals, read at output point n and channel d: over the 27 offsets, the sum over the
  pairs with that output point of the input point's features times the offset's weights, plus the bias.
-/
module

public import proofs.«01_k».proof.Proof.Pairs
public import proofs.«01_k».proof.Proof.Gen.ReferenceIdeal.Run
public import Idealize.ShloMosaic.Lib.IdealHost
public import Idealize.ShloMosaic.Lib.KernelVsHost
public import Idealize.ShloMosaic.Lib.Routing.OpsSet

@[expose] public section

noncomputable section

namespace Cert.Proof.RefValue

open Cert.ReferenceIdeal Cert.ReferenceIdeal.Gen
open Idealize.ShloMosaic
open Idealize.ShloMosaic.ValueIdx Idealize.ShloMosaic.StableHlo
open Idealize.ShloMosaic.TcCoe
open Idealize.SL.Sem
open scoped BigOperators

/-! ## The reference's arrays -/

/-- A map's words as jnp indexes with them: a negative one counted from the end, one to a row. -/
def column (v : IVec S27x50000 32) : IVec S27x50000x1 32 :=
  broadcastInDim S27x50000x1 ![0, 1] bcast_S27x50000_S27x50000x1_0_1
    (select (cmpi .slt v (broadcastInDim S27x50000 ![] bcast_S_S27x50000 (constantI S_ 32 0#32))) (addi v (broadcastInDim S27x50000 ![] bcast_S_S27x50000 (constantI S_ 32 50001#32))) v)

/-- The rows with the zero row below them. -/
def rows (x : FVec Ideal S50000x128 .f32) : FVec Ideal S50001x128 .f32 :=
  concatenate S50001x128 0 [⟨S50000x128, x⟩, ⟨S1x128, (broadcastInDim S1x128 ![] bcast_S_S1x128 (constant S_ .f32 0x00000000#32))⟩] concatenates_S50000x128_S1x128_S50001x128_d0

/-- The rows looked up at the input points. -/
def taken (x : FVec Ideal S50000x128 .f32) (kin : IVec S27x50000 32) : FVec Ideal S27x50000x128 .f32 :=
  select (broadcastInDim S27x50000x128 ![0, 1] bcast_S27x50000_S27x50000x128_0_1
      (Host.reduce IntOp.andi (andi (cmpi .sge (column kin) (broadcastInDim S27x50000x1 ![] bcast_S_S27x50000x1 (constantI S_ 32 0#32)))
        (cmpi .sle (column kin) (broadcastInDim S27x50000x1 ![0, 1, 2] bcast_S1x1x1_S27x50000x1_0_1_2 (broadcastInDim S1x1x1 ![2] bcast_S1_S1x1x1_2 (constantI S1 32 50000#32)))))
        (constantI S_ 1 1#1) reducesTo_S27x50000x1_S27x50000_d2 h_S_))
    (Host.gather gather_S50001x128_S27x50000x1_S27x50000x128_2_0_n_n_0_2_1128 (rows x) (column kin))
    (broadcastInDim S27x50000x128 ![] bcast_S_S27x50000x128 (constant S_ .f32 0x7FC00000#32))

/-- Each pair's features times its offset's weights. -/
def parts (x : FVec Ideal S50000x128 .f32) (w : FVec Ideal S27x128x128 .f32) (kin : IVec S27x50000 32) : FVec Ideal S27x50000x128 .f32 :=
  Host.dotGeneral dot_S27x50000x128_S27x128x128_S27x50000x128_2_1_1_2_0_0 none (taken x kin) w

/-- The parts summed into their output points. -/
def summed (x : FVec Ideal S50000x128 .f32) (w : FVec Ideal S27x128x128 .f32) (kin kout : IVec S27x50000 32) : FVec Ideal S50001x128 .f32 :=
  Host.scatterAdd scatter_S50001x128_S27x50000x1_S27x50000x128_2_0_0_2 (broadcastInDim S50001x128 ![] bcast_S_S50001x128 (constant S_ .f32 0x00000000#32))
    (column kout) (parts x w kin)

/-- The reference's result. -/
def out (x : FVec Ideal S50000x128 .f32) (w : FVec Ideal S27x128x128 .f32) (a : FVec Ideal S128 .f32) (kin kout : IVec S27x50000 32) :
    FVec Ideal S50000x128 .f32 :=
  addf (extractStridedSlice S50000x128 ![0, 0] (summed x w kin kout) slices_S50001x128_S50000x128_0_0)
    (broadcastInDim S50000x128 ![0, 1] bcast_S1x128_S50000x128_0_1 (broadcastInDim S1x128 ![1] bcast_S128_S1x128_1 a))

/-! ## Read at an element -/

theorem column_at (v : IVec S27x50000 32) (h : ∀ i, (v i).toNat < 50001) (k : Fin 27) (p : Fin 50000) (q : Fin 1) :
    column v (ix3 k p q) = v (ix2 k p) := by
  unfold column
  refine (broadcastInDim_apply _ _ _ (ix3 k p q) (ix2 k p) (fun a => by match a with | 0 => rfl | 1 => rfl)).trans ?_
  have z : broadcastInDim S27x50000 ![] bcast_S_S27x50000 (constantI S_ 32 0#32) (ix2 k p) = 0#32 := broadcastInDim_scalar_apply _ _ _
  show Scalar.select (IntOp.cmpi .slt (v (ix2 k p)) (broadcastInDim S27x50000 ![] bcast_S_S27x50000 (constantI S_ 32 0#32) (ix2 k p))) _ (v (ix2 k p)) = _
  rw [z]
  exact Routing.wrap_of_lt _ _ (by have := h (ix2 k p); omega)

theorem rows_at (x : FVec Ideal S50000x128 .f32) (r : Fin 50001) (hr : r.val < 50000) (c : Fin 128) :
    rows x (ix2 r c) = x (ix2 (⟨r.val, hr⟩ : Fin 50000) c) := by
  unfold rows
  exact concatenate_pair_apply_left (s₁ := S50000x128) (s₂ := S1x128) 0 _ _ _ (ix2 r c) rfl (ix2 (⟨r.val, hr⟩ : Fin 50000) c)
    (fun b => by match b with | 0 => rfl | 1 => rfl)

theorem rows_last (x : FVec Ideal S50000x128 .f32) (r : Fin 50001) (hr : r.val = 50000) (c : Fin 128) : rows x (ix2 r c) = (0 : EReal) := by
  unfold rows
  refine (concatenate_pair_apply_right (s₁ := S50000x128) (s₂ := S1x128) 0 _ _ _ (ix2 r c) rfl rfl (ix2 (0 : Fin 1) c)
    (fun b hb => by match b with | 0 => exact absurd rfl hb | 1 => rfl) (by show 0 + 50000 = r.val; omega)).trans ?_
  refine (broadcastInDim_scalar_apply _ _ _).trans ?_
  show Ideal.ofBits .f32 0x00000000#32 = 0
  exact Ideal.ofBits_zero_f32

/-- The lookup reads the row its word names. -/
theorem lookup_at {α : Type} (x : S50001x128.Idx → α) (idx : IVec S27x50000x1 32) (k : Fin 27) (p : Fin 50000) (c : Fin 128)
    (h : (idx (ix3 k p (0 : Fin 1))).toNat < 50001) :
    Host.gather gather_S50001x128_S27x50000x1_S27x50000x128_2_0_n_n_0_2_1128 x idx (ix3 k p c)
      = x (ix2 (⟨(idx (ix3 k p (0 : Fin 1))).toNat, h⟩ : Fin 50001) c) := by
  unfold Host.gather
  congr 1
  have hone : gather_S50001x128_S27x50000x1_S27x50000x128_2_0_n_n_0_2_1128.siIdx (ix3 k p c)
      ⟨List.idxOf (0 : Fin 2) gather_S50001x128_S27x50000x1_S27x50000x128_2_0_n_n_0_2_1128.startIndexMap,
        List.idxOf_lt_length_iff.2 (List.mem_singleton.mpr rfl)⟩ = ix3 k p (0 : Fin 1) := by
    funext b
    refine Fin.ext ?_
    match b with
    | ⟨0, _⟩ => rfl
    | ⟨1, _⟩ => rfl
    | ⟨2, _⟩ => rfl
  funext a
  refine Fin.ext ?_
  match a with
  | ⟨0, _⟩ =>
    show GatherDims.start _ _ idx 0 + GatherDims.batchCoord _ _ 0 + GatherDims.offCoord _ _ 0 = (idx (ix3 k p (0 : Fin 1))).toNat
    rw [GatherDims.batchCoord_eq_zero _ _ _ (by decide),
      GatherDims.offCoord_eq_zero _ _ _ (fun h => ((GatherDims.mem_sKept _ _).mp h).1 (List.mem_singleton.mpr rfl))]
    unfold GatherDims.start
    rw [dif_pos (show (0 : Fin 2) ∈ gather_S50001x128_S27x50000x1_S27x50000x128_2_0_n_n_0_2_1128.startIndexMap from List.mem_singleton.mpr rfl),
      hone, StableHlo.Predicate.toInt_eq_toNat_of_lt (by omega)]
    show min ((idx (ix3 k p (0 : Fin 1))).toNat : Int).toNat (50001 - 1) + 0 + 0 = _
    rw [Int.toNat_natCast]
    omega
  | ⟨1, _⟩ =>
    show GatherDims.start _ _ idx 1 + GatherDims.batchCoord _ _ 1 + GatherDims.offCoord _ _ 1 = c.val
    rw [GatherDims.batchCoord_eq_zero _ _ _ (by decide)]
    unfold GatherDims.start GatherDims.offCoord
    rw [dif_neg (by decide), dif_pos (by decide)]
    show 0 + 0 + c.val = c.val
    omega

/-- A choice between two arrays where the mask is set. -/
theorem select_on {s : Shape} (b : IVec s 1) (x y : FVec Ideal s .f32) (j : s.Idx) (h : b j = 1#1) : select b x y j = x j := by
  show Scalar.select (b j) (x j) (y j) = x j
  rw [h, select_one]

theorem taken_at (x : FVec Ideal S50000x128 .f32) (kin : IVec S27x50000 32) (h : ∀ i, (kin i).toNat < 50001) (k : Fin 27) (p : Fin 50000) (c : Fin 128) :
    taken x kin (ix3 k p c) = rows x (ix2 (⟨(kin (ix2 k p)).toNat, h _⟩ : Fin 50001) c) := by
  have hr : ∀ j, Host.reduce IntOp.andi (andi (cmpi .sge (column kin) (broadcastInDim S27x50000x1 ![] bcast_S_S27x50000x1 (constantI S_ 32 0#32)))
        (cmpi .sle (column kin) (broadcastInDim S27x50000x1 ![0, 1, 2] bcast_S1x1x1_S27x50000x1_0_1_2 (broadcastInDim S1x1x1 ![2] bcast_S1_S1x1x1_2 (constantI S1 32 50000#32)))))
        (constantI S_ 1 1#1) reducesTo_S27x50000x1_S27x50000_d2 h_S_ j = 1#1 := fun j => by
    refine Host.reduce_andi_one _ _ _ _ _ rfl fun i => ?_
    obtain ⟨k', p', q, rfl⟩ : ∃ (k' : Fin 27) (p' : Fin 50000) (q : Fin 1), i = (ix3 k' p' q : S27x50000x1.Idx) :=
      ⟨_, _, _, ValueIdx.eq_ix3 (n0 := 27) (n1 := 50000) (n2 := 1) i⟩
    show IntOp.andi (IntOp.cmpi .sge (column kin (ix3 k' p' q)) 0#32) (IntOp.cmpi .sle (column kin (ix3 k' p' q)) 50000#32) = 1#1
    rw [column_at kin h]
    exact Pairs.word_in _ (h _)
  have hc := column_at kin h k p 0
  unfold taken
  refine (select_on _ _ _ _ ((broadcastInDim_apply _ _ _ (ix3 k p c) (ix2 k p) (fun a => by match a with | 0 => rfl | 1 => rfl)).trans (hr _))).trans ?_
  refine (lookup_at (rows x) (column kin) k p c (by rw [hc]; exact h _)).trans ?_
  congr 2
  exact Fin.ext (congrArg BitVec.toNat hc)

theorem parts_at (x : FVec Ideal S50000x128 .f32) (w : FVec Ideal S27x128x128 .f32) (kin : IVec S27x50000 32) (h : ∀ i, (kin i).toNat < 50001)
    (k : Fin 27) (p : Fin 50000) (d : Fin 128) :
    parts x w kin (ix3 k p d) = ∑ c : Fin 128, rows x (ix2 (⟨(kin (ix2 k p)).toNat, h _⟩ : Fin 50001) c) * w (ix3 k c d) := by
  unfold parts
  simp only [Host.dotGeneral]
  rw [Ideal.dotGeneral_apply, ← Equiv.sum_comp (contrEquiv1 dot_S27x50000x128_S27x128x128_S27x50000x128_2_1_1_2_0_0 128 rfl rfl).symm]
  refine Finset.sum_congr rfl fun c _ => ?_
  have hk := contrEquiv1_symm_val dot_S27x50000x128_S27x128x128_S27x50000x128_2_1_1_2_0_0 128 rfl rfl c
  have el : dot_S27x50000x128_S27x128x128_S27x50000x128_2_1_1_2_0_0.lhsIdx (ix3 k p d)
      ((contrEquiv1 dot_S27x50000x128_S27x128x128_S27x50000x128_2_1_1_2_0_0 128 rfl rfl).symm c) = ix3 k p c := by
    funext a
    refine Fin.ext ?_
    match a with
    | ⟨0, _⟩ => rfl
    | ⟨1, _⟩ => rfl
    | ⟨2, _⟩ => exact hk
  have er : dot_S27x50000x128_S27x128x128_S27x50000x128_2_1_1_2_0_0.rhsIdx (ix3 k p d)
      ((contrEquiv1 dot_S27x50000x128_S27x128x128_S27x50000x128_2_1_1_2_0_0 128 rfl rfl).symm c) = ix3 k c d := by
    funext a
    refine Fin.ext ?_
    match a with
    | ⟨0, _⟩ => rfl
    | ⟨1, _⟩ => exact hk
    | ⟨2, _⟩ => rfl
  rw [el, er, taken_at x kin h]

/-- The part `(k, p, d')` goes to `(r, d)` when the word read there is `r` and `d'` is `d`. -/
theorem lands (idx : IVec S27x50000x1 32) (k : Fin 27) (p : Fin 50000) (d' : Fin 128) (r : Fin 50001) (d : Fin 128) :
    scatter_S50001x128_S27x50000x1_S27x50000x128_2_0_0_2.resultIdx? (ix3 k p d') idx = some (ix2 r d)
      ↔ (idx (ix3 k p (0 : Fin 1))).toInt = (r.val : Int) ∧ d' = d := by
  refine (Routing.resultIdx?_ix2 scatter_S50001x128_S27x50000x1_S27x50000x128_2_0_0_2 (ix3 k p d') idx r d).trans ?_
  have hone : scatter_S50001x128_S27x50000x1_S27x50000x128_2_0_0_2.siIdx (ix3 k p d')
      ⟨List.idxOf (0 : Fin 2) scatter_S50001x128_S27x50000x1_S27x50000x128_2_0_0_2.scatterDimsToOperandDims,
        List.idxOf_lt_length_iff.2 (List.mem_singleton.mpr rfl)⟩ = ix3 k p (0 : Fin 1) := by
    funext b
    refine Fin.ext ?_
    match b with
    | ⟨0, _⟩ => rfl
    | ⟨1, _⟩ => rfl
    | ⟨2, _⟩ => rfl
  have s0 : scatter_S50001x128_S27x50000x1_S27x50000x128_2_0_0_2.start (ix3 k p d') idx 0 = (idx (ix3 k p (0 : Fin 1))).toInt := by
    unfold ScatterDims.start
    rw [dif_pos (show (0 : Fin 2) ∈ scatter_S50001x128_S27x50000x1_S27x50000x128_2_0_0_2.scatterDimsToOperandDims from List.mem_singleton.mpr rfl), hone]
  have s1 : scatter_S50001x128_S27x50000x1_S27x50000x128_2_0_0_2.start (ix3 k p d') idx 1 = 0 := by
    unfold ScatterDims.start
    rw [dif_neg (by decide)]
  have w0 : scatter_S50001x128_S27x50000x1_S27x50000x128_2_0_0_2.window (ix3 k p d') 0 = 0 := by
    unfold ScatterDims.window
    rw [dif_neg (by decide)]
  have w1 : scatter_S50001x128_S27x50000x1_S27x50000x128_2_0_0_2.window (ix3 k p d') 1 = d'.val := by
    unfold ScatterDims.window
    rw [dif_pos (by decide)]
    rfl
  rw [s0, s1, w0, w1]
  constructor
  · rintro ⟨a, b⟩
    exact ⟨by omega, Fin.ext (by omega)⟩
  · rintro ⟨a, rfl⟩
    exact ⟨by omega, by omega⟩

/-- Indices of a rank-3 array as triples. -/
def triple {a b c : ℕ} : (⟨3, ![a, b, c]⟩ : Shape).Idx ≃ Fin a × Fin b × Fin c where
  toFun i := (i 0, i 1, i 2)
  invFun q := ix3 q.1 q.2.1 q.2.2
  left_inv i := (ValueIdx.eq_ix3 i).symm
  right_inv _ := rfl

theorem summed_at (x : FVec Ideal S50000x128 .f32) (w : FVec Ideal S27x128x128 .f32) (kin kout : IVec S27x50000 32) (h : ∀ i, (kin i).toNat < 50001)
    (h' : ∀ i, (kout i).toNat < 50001) (r : Fin 50001) (d : Fin 128) :
    summed x w kin kout (ix2 r d) = ∑ k : Fin 27, ∑ p : Fin 50000,
      if (kout (ix2 k p)).toNat = r.val then ∑ c : Fin 128, rows x (ix2 (⟨(kin (ix2 k p)).toNat, h _⟩ : Fin 50001) c) * w (ix3 k c d) else 0 := by
  unfold summed Host.scatterAdd
  rw [Ideal.hostScatterAdd_def]
  show _ + ∑ j ∈ Finset.univ.filter (fun j => scatter_S50001x128_S27x50000x1_S27x50000x128_2_0_0_2.resultIdx? j (column kout) = some (ix2 r d)), parts x w kin j = _
  have z : broadcastInDim S50001x128 ![] bcast_S_S50001x128 (constant (F := Ideal) S_ .f32 0x00000000#32) (ix2 r d) = (0 : EReal) :=
    (broadcastInDim_scalar_apply _ _ _).trans Ideal.ofBits_zero_f32
  rw [z, zero_add, Finset.sum_filter, ← Equiv.sum_comp (triple (a := 27) (b := 50000) (c := 128)).symm, Fintype.sum_prod_type]
  refine Finset.sum_congr rfl fun k _ => ?_
  rw [Fintype.sum_prod_type]
  refine Finset.sum_congr rfl fun p _ => ?_
  have key : ∀ d' : Fin 128, scatter_S50001x128_S27x50000x1_S27x50000x128_2_0_0_2.resultIdx? (ix3 k p d') (column kout) = some (ix2 r d)
      ↔ (kout (ix2 k p)).toNat = r.val ∧ d' = d := fun d' => by
    have hp := h' (ix2 k p)
    rw [lands, column_at kout h', StableHlo.Predicate.toInt_eq_toNat_of_lt (by omega)]
    exact and_congr_left fun _ => Int.natCast_inj
  refine (Finset.sum_congr rfl fun d' _ => if_congr (key d') rfl rfl).trans ?_
  by_cases e : (kout (ix2 k p)).toNat = r.val
  · simp only [e, true_and, if_true]
    rw [Finset.sum_ite_eq' Finset.univ d, if_pos (Finset.mem_univ _)]
    exact parts_at x w kin h k p d
  · simp only [e, false_and, if_false, Finset.sum_const_zero]

/-- The reference's result at output point `n` and channel `d`. -/
theorem out_at (x : FVec Ideal S50000x128 .f32) (w : FVec Ideal S27x128x128 .f32) (a : FVec Ideal S128 .f32) (kin kout : IVec S27x50000 32)
    (h : ∀ i, (kin i).toNat < 50001) (h' : ∀ i, (kout i).toNat < 50001) (n : Fin 50000) (d : Fin 128) :
    out x w a kin kout (ix2 n d) = (∑ k : Fin 27, ∑ p : Fin 50000,
      if (kout (ix2 k p)).toNat = n.val then ∑ c : Fin 128, rows x (ix2 (⟨(kin (ix2 k p)).toNat, h _⟩ : Fin 50001) c) * w (ix3 k c d) else 0) + a (ix1 d) := by
  have hn := n.isLt
  unfold out
  refine congrArg₂ (· + ·) ?_ ?_
  · refine (extractStridedSlice_apply _ _ _ (ix2 n d) (ix2 (⟨n.val, by omega⟩ : Fin 50001) d) (fun a => by
      match a with
      | 0 => show n.val = 0 + n.val; omega
      | 1 => show d.val = 0 + d.val; omega)).trans ?_
    exact summed_at x w kin kout h h' _ d
  · refine (broadcastInDim_apply _ _ _ (ix2 n d) (ix2 (0 : Fin 1) d) (fun a => by match a with | 0 => rfl | 1 => rfl)).trans ?_
    exact broadcastInDim_apply _ _ _ (ix2 (0 : Fin 1) d) (ix1 d) (fun a => by match a with | 0 => rfl)

/-- The reference program's run, with its result named. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = out (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  Cert.ReferenceIdeal.Value.run m ρ

end Cert.Proof.RefValue

end
-- ==== Proof.Equal.lean ====
/-
  The kernel program and the reference end with equal results over the reals. At one offset the reference sums over the
  pairs with a given output point; by the precondition there is at most one, and the kernel's inverse map names its input
  point, or the zero row when there is none.
-/
module

public import proofs.«01_k».proof.Proof.Frames
public import proofs.«01_k».proof.Proof.Result
public import proofs.«01_k».proof.Proof.RefValue

@[expose] public section

noncomputable section

namespace Cert.Proof.Equal

open Cert.KernelIdeal Cert.KernelIdeal.Gen
open Cert.Proof.Host Cert.Proof.Inverse Cert.Proof.Result Cert.Proof.Run
open Cert.Proof.Tile (rowOf)
open Idealize.ShloMosaic hiding ix1 ix2 ix3
open Idealize.ShloMosaic.ValueIdx
open Idealize.ShloMosaic.TcCoe
open Idealize.SL.Sem
open scoped BigOperators

/-- The row a word below 50001 names. -/
theorem row_of (w : BitVec 32) (h : w.toNat < 50001) : rowOf w = ⟨w.toNat, h⟩ := Fin.ext (Nat.mod_eq_of_lt h)

/-- Both programs pad the rows alike. -/
theorem rows_same (x : FVec Ideal S50000x128 .f32) (r : Fin 50001) (c : Fin 128) : RefValue.rows x (ix2 r c) = padded x (ix2 r c) := by
  by_cases hr : r.val < 50000
  · exact (RefValue.rows_at x r hr c).trans (padded_row x r hr c).symm
  · have e : r.val = 50000 := by have := r.isLt; omega
    exact (RefValue.rows_last x r e c).trans (padded_last x r e c).symm

section
variable (x : FVec Ideal S50000x128 .f32) (w : FVec Ideal S27x128x128 .f32) (kin kout : IVec S27x50000 32)
  (h : ∀ i, (kin i).toNat < 50001) (h' : ∀ i, (kout i).toNat < 50001)
  (hu : ∀ (k : Fin 27) (p p' : Fin 50000), (kout (ix2 k p)).toNat < 50000 → kout (ix2 k p) = kout (ix2 k p') → p = p')
include h h' hu

/-- At one offset the sum over the pairs with output point `n` is the row the inverse map names times the weights. -/
theorem offset_sum (k : Fin 27) (n : Fin 50000) (d : Fin 128) :
    (∑ p : Fin 50000, if (kout (ix2 k p)).toNat = n.val then ∑ c : Fin 128, RefValue.rows x (ix2 (⟨(kin (ix2 k p)).toNat, h _⟩ : Fin 50001) c) * w (ix3 k c d) else (0 : EReal))
      = ∑ c : Fin 128, padded x (ix2 (source kin kout k n) c) * w (ix3 k c d) := by
  have hn := n.isLt
  by_cases hp : ∃ p : Fin 50000, (kout (ix2 k p)).toNat = n.val
  · obtain ⟨p, e⟩ := hp
    refine (Finset.sum_eq_single p (fun q _ hq => if_neg fun e' => hq ?_) (fun hq => absurd (Finset.mem_univ p) hq)).trans ?_
    · exact hu k q p (by omega) (BitVec.eq_of_toNat_eq (by omega))
    · have hs : source kin kout k n = ⟨(kin (ix2 k p)).toNat, h _⟩ := by
        unfold source
        rw [inverse_hit (F := Ideal) kin kout h' hu k p ⟨n.val, by omega⟩ hn e, row_of _ (h _)]
      rw [if_pos e, hs]
      exact Finset.sum_congr rfl fun c _ => congrArg (· * w (ix3 k c d)) (rows_same x _ c)
  · have hs : (source kin kout k n).val = 50000 := by
      unfold source
      rw [inverse_miss (F := Ideal) kin kout h' k ⟨n.val, by omega⟩ fun p e => hp ⟨p, e⟩]
      rfl
    refine (Finset.sum_eq_zero fun p _ => if_neg fun e => hp ⟨p, e⟩).trans (Finset.sum_eq_zero fun c _ => ?_).symm
    exact (congrArg (· * w (ix3 k c d)) (padded_last x _ hs c)).trans (zero_mul _)

/-- The reference's result is the kernel program's. -/
theorem out_same (a : FVec Ideal S128 .f32) (n : Fin 50000) (d : Fin 128) :
    RefValue.out x w a kin kout (ix2 n d) = conv x w a kin kout n d := by
  refine (RefValue.out_at x w a kin kout h h' n d).trans ?_
  unfold conv
  exact congrArg (· + a (ix1 d)) (Finset.sum_congr rfl fun k _ => offset_sum x w kin kout h h' hu k n d)
end

/-- Under the precondition the kernel program's result is the reference's of the same arguments. -/
theorem result (m : (ℓ : Loc nD τ sig) → Buf (Elt Ideal) ℓ) (hp : Frames.Holds m) (c : Dev nD) :
    RefValue.out (m ((c : Thread nD τ).loc main_arg0)) (m ((c : Thread nD τ).loc main_arg1)) (m ((c : Thread nD τ).loc main_arg2))
      (m ((c : Thread nD τ).loc main_arg3)) (m ((c : Thread nD τ).loc main_arg4)) = W5 m c (Proc.devRef .tc main_v29) := by
  obtain ⟨h, h', hu⟩ := Pairs.pairs _ _ _ _ _ (hp c)
  refine funext fun i => ?_
  obtain ⟨n, d, rfl⟩ : ∃ (n : Fin 50000) (d : Fin 128), i = (ix2 n d : S50000x128.Idx) := ⟨_, _, ValueIdx.eq_ix2 (n0 := 50000) (n1 := 128) i⟩
  exact (out_same _ _ _ _ h h' hu _ n d).trans (Result.out_at m c n d).symm

/-- From memories that agree on the arguments, under the precondition, both programs end with the same result and their arguments
    unchanged. -/
theorem algebraic : Cert.algebraic_KernelIdeal_ReferenceIdeal := fun m g m' g' hp hm => by
  refine ⟨fun c => W5 m c (Proc.devRef .tc main_v29), ?_, ?_⟩
  · exact (θ_run Cert.KernelIdeal.defs _ _).mono (fun r h c => ⟨h.1 c _ (Frames.mem_uc _ rfl), Frames.args m r h c⟩)
      (run_main m g (Frames.list_lt m hp))
  · refine (θ_run Cert.ReferenceIdeal.defs _ _).mono (fun r h c => ⟨(h c).1.trans ?_, (h c).2⟩) (RefValue.run m' g')
    obtain ⟨e0, e1, e2, e3, e4⟩ := hm c
    rw [e0, e1, e2, e3, e4]
    exact result m hp c

end Cert.Proof.Equal

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_pairs_of_the_map
public import proofs.«01_k».proof.Proof.Frames
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_pairs_of_the_map.Gen.facts,
  Frames.frame_kernel, Frames.frame_ideal, Frames.frame_reference, trivial, Equal.algebraic⟩

end Cert.Proof

end
